-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12)
      ∧ r.2.mem ((c.tc : Thread Cert.Mlp.nD Cert.Mlp.τ).loc Cert.Mlp.main_arg13) = m ((c.tc : Thread Cert.Mlp.nD Cert.Mlp.τ).loc Cert.Mlp.main_arg13)
      ∧ r.2.mem ((c.tc : Thread Cert.Mlp.nD Cert.Mlp.τ).loc Cert.Mlp.main_arg14) = m ((c.tc : Thread Cert.Mlp.nD Cert.Mlp.τ).loc Cert.Mlp.main_arg14))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
      ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13)
      ∧ r.2.mem ((c.tc : Thread Cert.MlpRefIdeal.nD Cert.MlpRefIdeal.τ).loc Cert.MlpRefIdeal.main_arg14) = m ((c.tc : Thread Cert.MlpRefIdeal.nD Cert.MlpRefIdeal.τ).loc Cert.MlpRefIdeal.main_arg14))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)
      ∧ m' ((c.tc : Thread Cert.MlpRefIdeal.nD Cert.MlpRefIdeal.τ).loc Cert.MlpRefIdeal.main_arg12) = m ((c.tc : Thread Cert.MlpIdeal.nD Cert.MlpIdeal.τ).loc Cert.MlpIdeal.main_arg12)
      ∧ m' ((c.tc : Thread Cert.MlpRefIdeal.nD Cert.MlpRefIdeal.τ).loc Cert.MlpRefIdeal.main_arg13) = m ((c.tc : Thread Cert.MlpIdeal.nD Cert.MlpIdeal.τ).loc Cert.MlpIdeal.main_arg13)
      ∧ m' ((c.tc : Thread Cert.MlpRefIdeal.nD Cert.MlpRefIdeal.τ).loc Cert.MlpRefIdeal.main_arg14) = m ((c.tc : Thread Cert.MlpIdeal.nD Cert.MlpIdeal.τ).loc Cert.MlpIdeal.main_arg14)) →
    ∃ (v0 : (c : Dev Cert.MlpIdeal.nD) → Buf (Elt Ideal) ((c.tc : Thread Cert.MlpIdeal.nD Cert.MlpIdeal.τ).loc Cert.MlpIdeal.main_v9_0)) (v1 : (c : Dev Cert.MlpIdeal.nD) → Buf (Elt Ideal) ((c.tc : Thread Cert.MlpIdeal.nD Cert.MlpIdeal.τ).loc Cert.MlpIdeal.main_v9_1)) (v2 : (c : Dev Cert.MlpIdeal.nD) → Buf (Elt Ideal) ((c.tc : Thread Cert.MlpIdeal.nD Cert.MlpIdeal.τ).loc Cert.MlpIdeal.main_v9_2)) (v3 : (c : Dev Cert.MlpIdeal.nD) → Buf (Elt Ideal) ((c.tc : Thread Cert.MlpIdeal.nD Cert.MlpIdeal.τ).loc Cert.MlpIdeal.main_v9_3)) (v4 : (c : Dev Cert.MlpIdeal.nD) → Buf (Elt Ideal) ((c.tc : Thread Cert.MlpIdeal.nD Cert.MlpIdeal.τ).loc Cert.MlpIdeal.main_v9_4)) (v5 : (c : Dev Cert.MlpIdeal.nD) → Buf (Elt Ideal) ((c.tc : Thread Cert.MlpIdeal.nD Cert.MlpIdeal.τ).loc Cert.MlpIdeal.main_v9_5)) (v6 : (c : Dev Cert.MlpIdeal.nD) → Buf (Elt Ideal) ((c.tc : Thread Cert.MlpIdeal.nD Cert.MlpIdeal.τ).loc Cert.MlpIdeal.main_v9_6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9_0) = v0 c
          ∧ r.2.mem ((c.tc : Thread Cert.MlpIdeal.nD Cert.MlpIdeal.τ).loc Cert.MlpIdeal.main_v9_1) = v1 c
          ∧ r.2.mem ((c.tc : Thread Cert.MlpIdeal.nD Cert.MlpIdeal.τ).loc Cert.MlpIdeal.main_v9_2) = v2 c
          ∧ r.2.mem ((c.tc : Thread Cert.MlpIdeal.nD Cert.MlpIdeal.τ).loc Cert.MlpIdeal.main_v9_3) = v3 c
          ∧ r.2.mem ((c.tc : Thread Cert.MlpIdeal.nD Cert.MlpIdeal.τ).loc Cert.MlpIdeal.main_v9_4) = v4 c
          ∧ r.2.mem ((c.tc : Thread Cert.MlpIdeal.nD Cert.MlpIdeal.τ).loc Cert.MlpIdeal.main_v9_5) = v5 c
          ∧ r.2.mem ((c.tc : Thread Cert.MlpIdeal.nD Cert.MlpIdeal.τ).loc Cert.MlpIdeal.main_v9_6) = v6 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
          ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
          ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v0_0) = v0 c
          ∧ r.2.mem ((c.tc : Thread Cert.MlpRefIdeal.nD Cert.MlpRefIdeal.τ).loc Cert.MlpRefIdeal.main_v0_1) = v1 c
          ∧ r.2.mem ((c.tc : Thread Cert.MlpRefIdeal.nD Cert.MlpRefIdeal.τ).loc Cert.MlpRefIdeal.main_v0_2) = v2 c
          ∧ r.2.mem ((c.tc : Thread Cert.MlpRefIdeal.nD Cert.MlpRefIdeal.τ).loc Cert.MlpRefIdeal.main_v0_3) = v3 c
          ∧ r.2.mem ((c.tc : Thread Cert.MlpRefIdeal.nD Cert.MlpRefIdeal.τ).loc Cert.MlpRefIdeal.main_v0_4) = v4 c
          ∧ r.2.mem ((c.tc : Thread Cert.MlpRefIdeal.nD Cert.MlpRefIdeal.τ).loc Cert.MlpRefIdeal.main_v0_5) = v5 c
          ∧ r.2.mem ((c.tc : Thread Cert.MlpRefIdeal.nD Cert.MlpRefIdeal.τ).loc Cert.MlpRefIdeal.main_v0_6) = v6 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11)
          ∧ r.2.mem ((c.tc : Thread Cert.MlpRefIdeal.nD Cert.MlpRefIdeal.τ).loc Cert.MlpRefIdeal.main_arg12) = m' ((c.tc : Thread Cert.MlpRefIdeal.nD Cert.MlpRefIdeal.τ).loc Cert.MlpRefIdeal.main_arg12)
          ∧ r.2.mem ((c.tc : Thread Cert.MlpRefIdeal.nD Cert.MlpRefIdeal.τ).loc Cert.MlpRefIdeal.main_arg13) = m' ((c.tc : Thread Cert.MlpRefIdeal.nD Cert.MlpRefIdeal.τ).loc Cert.MlpRefIdeal.main_arg13)
          ∧ r.2.mem ((c.tc : Thread Cert.MlpRefIdeal.nD Cert.MlpRefIdeal.τ).loc Cert.MlpRefIdeal.main_arg14) = m' ((c.tc : Thread Cert.MlpRefIdeal.nD Cert.MlpRefIdeal.τ).loc Cert.MlpRefIdeal.main_arg14))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v4_0)) (v1 : (c : Dev Cert.QkvIdeal.nD) → Buf (Elt Ideal) ((c.tc : Thread Cert.QkvIdeal.nD Cert.QkvIdeal.τ).loc Cert.QkvIdeal.main_v4_1)) (v2 : (c : Dev Cert.QkvIdeal.nD) → Buf (Elt Ideal) ((c.tc : Thread Cert.QkvIdeal.nD Cert.QkvIdeal.τ).loc Cert.QkvIdeal.main_v4_2)) (v3 : (c : Dev Cert.QkvIdeal.nD) → Buf (Elt Ideal) ((c.tc : Thread Cert.QkvIdeal.nD Cert.QkvIdeal.τ).loc Cert.QkvIdeal.main_v4_3)) (v4 : (c : Dev Cert.QkvIdeal.nD) → Buf (Elt Ideal) ((c.tc : Thread Cert.QkvIdeal.nD Cert.QkvIdeal.τ).loc Cert.QkvIdeal.main_v4_4)) (v5 : (c : Dev Cert.QkvIdeal.nD) → Buf (Elt Ideal) ((c.tc : Thread Cert.QkvIdeal.nD Cert.QkvIdeal.τ).loc Cert.QkvIdeal.main_v4_5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4_0) = v0 c
          ∧ r.2.mem ((c.tc : Thread Cert.QkvIdeal.nD Cert.QkvIdeal.τ).loc Cert.QkvIdeal.main_v4_1) = v1 c
          ∧ r.2.mem ((c.tc : Thread Cert.QkvIdeal.nD Cert.QkvIdeal.τ).loc Cert.QkvIdeal.main_v4_2) = v2 c
          ∧ r.2.mem ((c.tc : Thread Cert.QkvIdeal.nD Cert.QkvIdeal.τ).loc Cert.QkvIdeal.main_v4_3) = v3 c
          ∧ r.2.mem ((c.tc : Thread Cert.QkvIdeal.nD Cert.QkvIdeal.τ).loc Cert.QkvIdeal.main_v4_4) = v4 c
          ∧ r.2.mem ((c.tc : Thread Cert.QkvIdeal.nD Cert.QkvIdeal.τ).loc Cert.QkvIdeal.main_v4_5) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_v0_5) = v5 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def Claim : Prop :=
  ∃ (hMlp : Cert.Mlp.Facts) (hMlpIdeal : Cert.MlpIdeal.Facts) (hMlpRefIdeal : Cert.MlpRefIdeal.Facts) (hQkv : Cert.Qkv.Facts) (hQkvIdeal : Cert.QkvIdeal.Facts) (hQkvRefIdeal : Cert.QkvRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Qkv (hQkv := hQkv)
    ∧ quiescent_QkvIdeal (hQkvIdeal := hQkvIdeal)
    ∧ quiescent_QkvRefIdeal (hQkvRefIdeal := hQkvRefIdeal)
    ∧ preserves_Mlp_MlpIdeal
    ∧ algebraic_MlpIdeal_MlpRefIdeal (hMlpIdeal := hMlpIdeal) (hMlpRefIdeal := hMlpRefIdeal)
    ∧ preserves_Qkv_QkvIdeal
    ∧ algebraic_QkvIdeal_QkvRefIdeal (hQkvIdeal := hQkvIdeal) (hQkvRefIdeal := hQkvRefIdeal)
-- ==== Mlp.lean ====
abbrev S8192x1280 : Shape := ⟨2, ![8192, 1280]⟩
abbrev S1280x1280 : Shape := ⟨2, ![1280, 1280]⟩
abbrev S1280 : Shape := ⟨1, ![1280]⟩
abbrev S1280x3420 : Shape := ⟨2, ![1280, 3420]⟩
abbrev S3420 : Shape := ⟨1, ![3420]⟩
abbrev S3420x1280 : Shape := ⟨2, ![3420, 1280]⟩
abbrev S1x1280 : Shape := ⟨2, ![1, 1280]⟩
abbrev S1x3420 : Shape := ⟨2, ![1, 3420]⟩
abbrev S1x8192 : Shape := ⟨2, ![1, 8192]⟩
abbrev S8192x3420 : Shape := ⟨2, ![8192, 3420]⟩
abbrev S256x1280 : Shape := ⟨2, ![256, 1280]⟩
abbrev S1x256 : Shape := ⟨2, ![1, 256]⟩
abbrev S256x3420 : Shape := ⟨2, ![256, 3420]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1280x256 : Shape := ⟨2, ![1280, 256]⟩
abbrev S256x256 : Shape := ⟨2, ![256, 256]⟩
abbrev S1280x92 : Shape := ⟨2, ![1280, 92]⟩
abbrev S256x92 : Shape := ⟨2, ![256, 92]⟩
abbrev S1x92 : Shape := ⟨2, ![1, 92]⟩

abbrev nBuf : Space → Nat
  | .hbm => 31
  | .vmem => 32
  | .smem => 0
  | _ => 0

abbrev bufTy : (tb : Table) → Fin (tcTables nBuf tb) → BufTy
  | .hbm, ⟨0, _⟩ => ⟨S8192x1280, .f32⟩
  | .hbm, ⟨1, _⟩ => ⟨S8192x1280, .bf16⟩
  | .hbm, ⟨2, _⟩ => ⟨S1280x1280, .fp8e4m3⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280x3420, .fp8e4m3⟩
  | .hbm, ⟨7, _⟩ => ⟨S3420, .f32⟩
  | .hbm, ⟨8, _⟩ => ⟨S3420, .f32⟩
  | .hbm, ⟨9, _⟩ => ⟨S1280x3420, .fp8e4m3⟩
  | .hbm, ⟨10, _⟩ => ⟨S3420, .f32⟩
  | .hbm, ⟨11, _⟩ => ⟨S3420, .f32⟩
  | .hbm, ⟨12, _⟩ => ⟨S3420x1280, .fp8e4m3⟩
  | .hbm, ⟨13, _⟩ => ⟨S1280, .f32⟩
  | .hbm, ⟨14, _⟩ => ⟨S1280, .f32⟩
  | .hbm, ⟨15, _⟩ => ⟨S1x1280, .f32⟩
  | .hbm, ⟨16, _⟩ => ⟨S1x1280, .f32⟩
  | .hbm, ⟨17, _⟩ => ⟨S1x1280, .f32⟩
  | .hbm, ⟨18, _⟩ => ⟨S1x3420, .f32⟩
  | .hbm, ⟨19, _⟩ => ⟨S1x3420, .f32⟩
  | .hbm, ⟨20, _⟩ => ⟨S1x3420, .f32⟩
  | .hbm, ⟨21, _⟩ => ⟨S1x3420, .f32⟩
  | .hbm, ⟨22, _⟩ => ⟨S1x1280, .f32⟩
  | .hbm, ⟨23, _⟩ => ⟨S1x1280, .f32⟩
  | .hbm, ⟨24, _⟩ => ⟨S8192x1280, .fp8e4m3⟩
  | .hbm, ⟨25, _⟩ => ⟨S1x8192, .f32⟩
  | .hbm, ⟨26, _⟩ => ⟨S8192x1280, .fp8e4m3⟩
  | .hbm, ⟨27, _⟩ => ⟨S1x8192, .f32⟩
  | .hbm, ⟨28, _⟩ => ⟨S8192x3420, .fp8e4m3⟩
  | .hbm, ⟨29, _⟩ => ⟨S1x8192, .f32⟩
  | .hbm, ⟨30, _⟩ => ⟨S8192x1280, .bf16⟩
  | .local _ .vmem, ⟨0, _⟩ => ⟨S256x1280, .f32⟩
  | .local _ .vmem, ⟨1, _⟩ => ⟨S256x1280, .f32⟩
  | .local _ .vmem, ⟨2, _⟩ => ⟨S256x1280, .bf16⟩
  | .local _ .vmem, ⟨3, _⟩ => ⟨S256x1280, .bf16⟩
  | .local _ .vmem, ⟨4, _⟩ => ⟨S1280x1280, .fp8e4m3⟩
  | .local _ .vmem, ⟨5, _⟩ => ⟨S1x1280, .f32⟩
  | .local _ .vmem, ⟨6, _⟩ => ⟨S1x1280, .f32⟩
  | .local _ .vmem, ⟨7, _⟩ => ⟨S1x1280, .f32⟩
  | .local _ .vmem, ⟨8, _⟩ => ⟨S1280x3420, .fp8e4m3⟩
  | .local _ .vmem, ⟨9, _⟩ => ⟨S1x3420, .f32⟩
  | .local _ .vmem, ⟨10, _⟩ => ⟨S1x3420, .f32⟩
  | .local _ .vmem, ⟨11, _⟩ => ⟨S1280x3420, .fp8e4m3⟩
  | .local _ .vmem, ⟨12, _⟩ => ⟨S1x3420, .f32⟩
  | .local _ .vmem, ⟨13, _⟩ => ⟨S1x3420, .f32⟩
  | .local _ .vmem, ⟨14, _⟩ => ⟨S3420x1280, .fp8e4m3⟩
  | .local _ .vmem, ⟨15, _⟩ => ⟨S1x1280, .f32⟩
  | .local _ .vmem, ⟨16, _⟩ => ⟨S1x1280, .f32⟩
  | .local _ .vmem, ⟨17, _⟩ => ⟨S256x1280, .fp8e4m3⟩
  | .local _ .vmem, ⟨18, _⟩ => ⟨S256x1280, .fp8e4m3⟩
  | .local _ .vmem, ⟨19, _⟩ => ⟨S1x256, .f32⟩
  | .local _ .vmem, ⟨20, _⟩ => ⟨S1x256, .f32⟩
  | .local _ .vmem, ⟨21, _⟩ => ⟨S256x1280, .fp8e4m3⟩
  | .local _ .vmem, ⟨22, _⟩ => ⟨S256x1280, .fp8e4m3⟩
  | .local _ .vmem, ⟨23, _⟩ => ⟨S1x256, .f32⟩
  | .local _ .vmem, ⟨24, _⟩ => ⟨S1x256, .f32⟩
  | .local _ .vmem, ⟨25, _⟩ => ⟨S256x3420, .fp8e4m3⟩
  | .local _ .vmem, ⟨26, _⟩ => ⟨S256x3420, .fp8e4m3⟩
  | .local _ .vmem, ⟨27, _⟩ => ⟨S1x256, .f32⟩
  | .local _ .vmem, ⟨28, _⟩ => ⟨S1x256, .f32⟩
  | .local _ .vmem, ⟨29, _⟩ => ⟨S256x1280, .bf16⟩
  | .local _ .vmem, ⟨30, _⟩ => ⟨S256x1280, .bf16⟩
  | .local _ .vmem, ⟨31, _⟩ => ⟨S256x3420, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev main_v9_5 : Ref sig .tc := ⟨.hbm, 29, rfl⟩
abbrev main_v9_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x3420 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3420 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3420 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1280x3420 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3420 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3420 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3420x1280 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1280 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1280 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1280 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x3420 .fp8e4m3 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1280 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MlpRefIdeal.lean ====
abbrev S8192x1280 : Shape := ⟨2, ![8192, 1280]⟩
abbrev S1280x1280 : Shape := ⟨2, ![1280, 1280]⟩
abbrev S1280 : Shape := ⟨1, ![1280]⟩
abbrev S1280x3420 : Shape := ⟨2, ![1280, 3420]⟩
abbrev S3420 : Shape := ⟨1, ![3420]⟩
abbrev S3420x1280 : Shape := ⟨2, ![3420, 1280]⟩
abbrev S1x8192 : Shape := ⟨2, ![1, 8192]⟩
abbrev S8192x3420 : Shape := ⟨2, ![8192, 3420]⟩
abbrev S8192 : Shape := ⟨1, ![8192]⟩
abbrev S8192x1 : Shape := ⟨2, ![8192, 1]⟩
abbrev S1x1280 : Shape := ⟨2, ![1, 1280]⟩
abbrev S1x3420 : Shape := ⟨2, ![1, 3420]⟩

abbrev nBuf : Space → Nat
  | .hbm => 22
  | .vmem => 22
  | .smem => 0
  | _ => 0

abbrev bufTy : (tb : Table) → Fin (tcTables nBuf tb) → BufTy
  | .hbm, ⟨0, _⟩ => ⟨S8192x1280, .f32⟩
  | .hbm, ⟨1, _⟩ => ⟨S8192x1280, .bf16⟩
  | .hbm, ⟨2, _⟩ => ⟨S1280x1280, .fp8e4m3⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280x3420, .fp8e4m3⟩
  | .hbm, ⟨7, _⟩ => ⟨S3420, .f32⟩
  | .hbm, ⟨8, _⟩ => ⟨S3420, .f32⟩
  | .hbm, ⟨9, _⟩ => ⟨S1280x3420, .fp8e4m3⟩
  | .hbm, ⟨10, _⟩ => ⟨S3420, .f32⟩
  | .hbm, ⟨11, _⟩ => ⟨S3420, .f32⟩
  | .hbm, ⟨12, _⟩ => ⟨S3420x1280, .fp8e4m3⟩
  | .hbm, ⟨13, _⟩ => ⟨S1280, .f32⟩
  | .hbm, ⟨14, _⟩ => ⟨S1280, .f32⟩
  | .hbm, ⟨15, _⟩ => ⟨S8192x1280, .fp8e4m3⟩
  | .hbm, ⟨16, _⟩ => ⟨S1x8192, .f32⟩
  | .hbm, ⟨17, _⟩ => ⟨S8192x1280, .fp8e4m3⟩
  | .hbm, ⟨18, _⟩ => ⟨S1x8192, .f32⟩
  | .hbm, ⟨19, _⟩ => ⟨S8192x3420, .fp8e4m3⟩
  | .hbm, ⟨20, _⟩ => ⟨S1x8192, .f32⟩
  | .hbm, ⟨21, _⟩ => ⟨S8192x1280, .bf16⟩
  | .local _ .vmem, ⟨0, _⟩ => ⟨S8192x1280, .f32⟩
  | .local _ .vmem, ⟨1, _⟩ => ⟨S8192x1280, .bf16⟩
  | .local _ .vmem, ⟨2, _⟩ => ⟨S1280x1280, .fp8e4m3⟩
  | .local _ .vmem, ⟨3, _⟩ => ⟨S1280, .f32⟩
  | .local _ .vmem, ⟨4, _⟩ => ⟨S1280, .f32⟩
  | .local _ .vmem, ⟨5, _⟩ => ⟨S1280, .f32⟩
  | .local _ .vmem, ⟨6, _⟩ => ⟨S1280x3420, .fp8e4m3⟩
  | .local _ .vmem, ⟨7, _⟩ => ⟨S3420, .f32⟩
  | .local _ .vmem, ⟨8, _⟩ => ⟨S3420, .f32⟩
  | .local _ .vmem, ⟨9, _⟩ => ⟨S1280x3420, .fp8e4m3⟩
  | .local _ .vmem, ⟨10, _⟩ => ⟨S3420, .f32⟩
  | .local _ .vmem, ⟨11, _⟩ => ⟨S3420, .f32⟩
  | .local _ .vmem, ⟨12, _⟩ => ⟨S3420x1280, .fp8e4m3⟩
  | .local _ .vmem, ⟨13, _⟩ => ⟨S1280, .f32⟩
  | .local _ .vmem, ⟨14, _⟩ => ⟨S1280, .f32⟩
  | .local _ .vmem, ⟨15, _⟩ => ⟨S8192x1280, .fp8e4m3⟩
  | .local _ .vmem, ⟨16, _⟩ => ⟨S1x8192, .f32⟩
  | .local _ .vmem, ⟨17, _⟩ => ⟨S8192x1280, .fp8e4m3⟩
  | .local _ .vmem, ⟨18, _⟩ => ⟨S1x8192, .f32⟩
  | .local _ .vmem, ⟨19, _⟩ => ⟨S8192x3420, .fp8e4m3⟩
  | .local _ .vmem, ⟨20, _⟩ => ⟨S1x8192, .f32⟩
  | .local _ .vmem, ⟨21, _⟩ => ⟨S8192x1280, .bf16⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S8192x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x3420 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3420 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3420 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1280x3420 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3420 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3420 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3420x1280 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1280 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8192x1280 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x8192 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8192x1280 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x8192 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S8192x3420 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x8192 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S8192x1280 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Qkv.lean ====
abbrev S8192x1280 : Shape := ⟨2, ![8192, 1280]⟩
abbrev S1280 : Shape := ⟨1, ![1280]⟩
abbrev S1280x3840 : Shape := ⟨2, ![1280, 3840]⟩
abbrev S3840 : Shape := ⟨1, ![3840]⟩
abbrev S8192x80 : Shape := ⟨2, ![8192, 80]⟩
abbrev S8192 : Shape := ⟨1, ![8192]⟩
abbrev S1x1280 : Shape := ⟨2, ![1, 1280]⟩
abbrev S1x3840 : Shape := ⟨2, ![1, 3840]⟩
abbrev S1x8192 : Shape := ⟨2, ![1, 8192]⟩
abbrev S2048x8192 : Shape := ⟨2, ![2048, 8192]⟩
abbrev S8192x2048 : Shape := ⟨2, ![8192, 2048]⟩
abbrev S1280x8192 : Shape := ⟨2, ![1280, 8192]⟩
abbrev S32x256 : Shape := ⟨2, ![32, 256]⟩
abbrev S256x1280 : Shape := ⟨2, ![256, 1280]⟩
abbrev S256x80 : Shape := ⟨2, ![256, 80]⟩
abbrev S1x256 : Shape := ⟨2, ![1, 256]⟩
abbrev S2048x256 : Shape := ⟨2, ![2048, 256]⟩
abbrev S256x2048 : Shape := ⟨2, ![256, 2048]⟩
abbrev S1280x256 : Shape := ⟨2, ![1280, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S48x256 : Shape := ⟨2, ![48, 256]⟩
abbrev S80x256 : Shape := ⟨2, ![80, 256]⟩
abbrev S1280x1280 : Shape := ⟨2, ![1280, 1280]⟩
abbrev S40x256 : Shape := ⟨2, ![40, 256]⟩

abbrev nBuf : Space → Nat
  | .hbm => 18
  | .vmem => 23
  | .smem => 0
  | _ => 0

abbrev bufTy : (tb : Table) → Fin (tcTables nBuf tb) → BufTy
  | .hbm, ⟨0, _⟩ => ⟨S8192x1280, .bf16⟩
  | .hbm, ⟨1, _⟩ => ⟨S1280, .f32⟩
  | .hbm, ⟨2, _⟩ => ⟨S1280x3840, .fp8e4m3⟩
  | .hbm, ⟨3, _⟩ => ⟨S3840, .f32⟩
  | .hbm, ⟨4, _⟩ => ⟨S3840, .f32⟩
  | .hbm, ⟨5, _⟩ => ⟨S8192x80, .f32⟩
  | .hbm, ⟨6, _⟩ => ⟨S8192x80, .f32⟩
  | .hbm, ⟨7, _⟩ => ⟨S8192, .i32⟩
  | .hbm, ⟨8, _⟩ => ⟨S1x1280, .f32⟩
  | .hbm, ⟨9, _⟩ => ⟨S1x3840, .f32⟩
  | .hbm, ⟨10, _⟩ => ⟨S1x3840, .f32⟩
  | .hbm, ⟨11, _⟩ => ⟨S1x8192, .i32⟩
  | .hbm, ⟨12, _⟩ => ⟨S8192x1280, .fp8e4m3⟩
  | .hbm, ⟨13, _⟩ => ⟨S1x8192, .f32⟩
  | .hbm, ⟨14, _⟩ => ⟨S2048x8192, .bf16⟩
  | .hbm, ⟨15, _⟩ => ⟨S8192x2048, .bf16⟩
  | .hbm, ⟨16, _⟩ => ⟨S1280x8192, .bf16⟩
  | .hbm, ⟨17, _⟩ => ⟨S32x256, .f32⟩
  | .local _ .vmem, ⟨0, _⟩ => ⟨S256x1280, .bf16⟩
  | .local _ .vmem, ⟨1, _⟩ => ⟨S256x1280, .bf16⟩
  | .local _ .vmem, ⟨2, _⟩ => ⟨S1x1280, .f32⟩
  | .local _ .vmem, ⟨3, _⟩ => ⟨S1280x3840, .fp8e4m3⟩
  | .local _ .vmem, ⟨4, _⟩ => ⟨S1x3840, .f32⟩
  | .local _ .vmem, ⟨5, _⟩ => ⟨S1x3840, .f32⟩
  | .local _ .vmem, ⟨6, _⟩ => ⟨S256x80, .f32⟩
  | .local _ .vmem, ⟨7, _⟩ => ⟨S256x80, .f32⟩
  | .local _ .vmem, ⟨8, _⟩ => ⟨S256x80, .f32⟩
  | .local _ .vmem, ⟨9, _⟩ => ⟨S256x80, .f32⟩
  | .local _ .vmem, ⟨10, _⟩ => ⟨S1x256, .i32⟩
  | .local _ .vmem, ⟨11, _⟩ => ⟨S1x256, .i32⟩
  | .local _ .vmem, ⟨12, _⟩ => ⟨S256x1280, .fp8e4m3⟩
  | .local _ .vmem, ⟨13, _⟩ => ⟨S256x1280, .fp8e4m3⟩
  | .local _ .vmem, ⟨14, _⟩ => ⟨S1x256, .f32⟩
  | .local _ .vmem, ⟨15, _⟩ => ⟨S1x256, .f32⟩
  | .local _ .vmem, ⟨16, _⟩ => ⟨S2048x256, .bf16⟩
  | .local _ .vmem, ⟨17, _⟩ => ⟨S2048x256, .bf16⟩
  | .local _ .vmem, ⟨18, _⟩ => ⟨S256x2048, .bf16⟩
  | .local _ .vmem, ⟨19, _⟩ => ⟨S256x2048, .bf16⟩
  | .local _ .vmem, ⟨20, _⟩ => ⟨S1280x256, .bf16⟩
  | .local _ .vmem, ⟨21, _⟩ => ⟨S1280x256, .bf16⟩
  | .local _ .vmem, ⟨22, _⟩ => ⟨S32x256, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3840 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1280x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== QkvRefIdeal.lean ====
abbrev S8192x1280 : Shape := ⟨2, ![8192, 1280]⟩
abbrev S1280 : Shape := ⟨1, ![1280]⟩
abbrev S1280x3840 : Shape := ⟨2, ![1280, 3840]⟩
abbrev S3840 : Shape := ⟨1, ![3840]⟩
abbrev S8192x80 : Shape := ⟨2, ![8192, 80]⟩
abbrev S8192 : Shape := ⟨1, ![8192]⟩
abbrev S1x8192 : Shape := ⟨2, ![1, 8192]⟩
abbrev S2048x8192 : Shape := ⟨2, ![2048, 8192]⟩
abbrev S8192x2048 : Shape := ⟨2, ![8192, 2048]⟩
abbrev S1280x8192 : Shape := ⟨2, ![1280, 8192]⟩
abbrev S32x256 : Shape := ⟨2, ![32, 256]⟩
abbrev S8192x1 : Shape := ⟨2, ![8192, 1]⟩
abbrev S1x1280 : Shape := ⟨2, ![1, 1280]⟩
abbrev S8192x3840 : Shape := ⟨2, ![8192, 3840]⟩
abbrev S1x3840 : Shape := ⟨2, ![1, 3840]⟩
abbrev S8192x3x16x80 : Shape := ⟨4, ![8192, 3, 16, 80]⟩
abbrev S8192x1x16x80 : Shape := ⟨4, ![8192, 1, 16, 80]⟩
abbrev S8192x16x80 : Shape := ⟨3, ![8192, 16, 80]⟩
abbrev S8192x16x40 : Shape := ⟨3, ![8192, 16, 40]⟩
abbrev S8192x1x80 : Shape := ⟨3, ![8192, 1, 80]⟩
abbrev S8192x16 : Shape := ⟨2, ![8192, 16]⟩
abbrev S8192x32 : Shape := ⟨2, ![8192, 32]⟩
abbrev S8192x48 : Shape := ⟨2, ![8192, 48]⟩
abbrev S8192x1x48 : Shape := ⟨3, ![8192, 1, 48]⟩
abbrev S8192x16x48 : Shape := ⟨3, ![8192, 16, 48]⟩
abbrev S8192x16x128 : Shape := ⟨3, ![8192, 16, 128]⟩
abbrev S32x256x16 : Shape := ⟨3, ![32, 256, 16]⟩
abbrev S256x16 : Shape := ⟨2, ![256, 16]⟩
abbrev S16x256 : Shape := ⟨2, ![16, 256]⟩

abbrev nBuf : Space → Nat
  | .hbm => 14
  | .vmem => 14
  | .smem => 0
  | _ => 0

abbrev bufTy : (tb : Table) → Fin (tcTables nBuf tb) → BufTy
  | .hbm, ⟨0, _⟩ => ⟨S8192x1280, .bf16⟩
  | .hbm, ⟨1, _⟩ => ⟨S1280, .f32⟩
  | .hbm, ⟨2, _⟩ => ⟨S1280x3840, .fp8e4m3⟩
  | .hbm, ⟨3, _⟩ => ⟨S3840, .f32⟩
  | .hbm, ⟨4, _⟩ => ⟨S3840, .f32⟩
  | .hbm, ⟨5, _⟩ => ⟨S8192x80, .f32⟩
  | .hbm, ⟨6, _⟩ => ⟨S8192x80, .f32⟩
  | .hbm, ⟨7, _⟩ => ⟨S8192, .i32⟩
  | .hbm, ⟨8, _⟩ => ⟨S8192x1280, .fp8e4m3⟩
  | .hbm, ⟨9, _⟩ => ⟨S1x8192, .f32⟩
  | .hbm, ⟨10, _⟩ => ⟨S2048x8192, .bf16⟩
  | .hbm, ⟨11, _⟩ => ⟨S8192x2048, .bf16⟩
  | .hbm, ⟨12, _⟩ => ⟨S1280x8192, .bf16⟩
  | .hbm, ⟨13, _⟩ => ⟨S32x256, .f32⟩
  | .local _ .vmem, ⟨0, _⟩ => ⟨S8192x1280, .bf16⟩
  | .local _ .vmem, ⟨1, _⟩ => ⟨S1280, .f32⟩
  | .local _ .vmem, ⟨2, _⟩ => ⟨S1280x3840, .fp8e4m3⟩
  | .local _ .vmem, ⟨3, _⟩ => ⟨S3840, .f32⟩
  | .local _ .vmem, ⟨4, _⟩ => ⟨S3840, .f32⟩
  | .local _ .vmem, ⟨5, _⟩ => ⟨S8192x80, .f32⟩
  | .local _ .vmem, ⟨6, _⟩ => ⟨S8192x80, .f32⟩
  | .local _ .vmem, ⟨7, _⟩ => ⟨S8192, .i32⟩
  | .local _ .vmem, ⟨8, _⟩ => ⟨S8192x1280, .fp8e4m3⟩
  | .local _ .vmem, ⟨9, _⟩ => ⟨S1x8192, .f32⟩
  | .local _ .vmem, ⟨10, _⟩ => ⟨S2048x8192, .bf16⟩
  | .local _ .vmem, ⟨11, _⟩ => ⟨S8192x2048, .bf16⟩
  | .local _ .vmem, ⟨12, _⟩ => ⟨S1280x8192, .bf16⟩
  | .local _ .vmem, ⟨13, _⟩ => ⟨S32x256, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S8192x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3840 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x1280 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x8192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1280x8192 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Mlp.Rows.lean ====
module

public import Idealize.ShloMosaic.Lib.Pointwise

@[expose] public section

/-! The second half of the vision block, written for ONE row of its arrays over the extended reals. Every array of
    the half is computed row by row, so both programs are compared with these functions: the kernel's tile at its
    row `r`, and the reference's array at the row the tile puts there. -/

set_option maxRecDepth 16384

noncomputable section

namespace Cert.Rows

open Idealize.ShloMosaic

/-- The size of an entry, `max x (-x)`. -/
abbrev mag (x : EReal) : EReal := FloatOps.absf (F := Ideal) (φ := .f32) x

/-- The largest size in a row, started from minus infinity. -/
def rowMax {n : ℕ} (f : Fin n → EReal) : EReal :=
  Finset.univ.fold max (Ideal.ofBits .f32 0xFF800000#32) fun k => mag (f k)

/-- The scale of a row whose largest size is `a`: `a / 448`, and `1` for a row of zeros. -/
def scaleOf (a : EReal) : EReal := if a = 0 then 1 else Ideal.div a (Ideal.ofBits .f32 0x43E00000#32)

/-- The code of an entry under a scale: the quotient kept between `-448` and `448`. -/
def codeOf (x s : EReal) : EReal :=
  min (Ideal.ofBits .f32 0x43E00000#32) (max (Ideal.ofBits .f32 0xC3E00000#32) (Ideal.div x s))

/-- The scale of a row. -/
def scale {n : ℕ} (f : Fin n → EReal) : EReal := scaleOf (rowMax f)

/-- The codes of a row. -/
def code {n : ℕ} (f : Fin n → EReal) (j : Fin n) : EReal := codeOf (f j) (scale f)

/-- One entry of a quantised row times a weight matrix: the dot product of the codes, times the row's scale, times
    the column's scale, plus the column's bias. -/
def linear {n m : ℕ} (c : Fin n → EReal) (s : EReal) (w : Fin n → Fin m → EReal) (sw b : Fin m → EReal) (j : Fin m) :
    EReal := (∑ k, c k * w k j) * s * sw j + b j

/-- A row scaled to root mean square one, times a gain. The divisor `1280` and the `1e-6` are their f32 patterns. -/
def rms (h g : Fin 1280 → EReal) (j : Fin 1280) : EReal :=
  Ideal.div (h j) (Ideal.sqrt (Ideal.div (∑ k, h k * h k) (Ideal.ofBits .f32 0x44A00000#32)
    + Ideal.ofBits .f32 0x358637BD#32)) * g j

/-- The gated activation of one entry: `g · logistic g · u`. -/
def gate (g u : EReal) : EReal := g * Ideal.logistic g * u

/-- Row `i` of an array. -/
abbrev row {n m : ℕ} (v : (⟨2, ![n, m]⟩ : Shape).Idx → EReal) (i : Fin n) : Fin m → EReal := fun k => v (ix2 i k)

/-- A weight matrix by its two coordinates. -/
abbrev mat {n m : ℕ} (v : (⟨2, ![n, m]⟩ : Shape).Idx → EReal) : Fin n → Fin m → EReal := fun k j => v (ix2 k j)

/-- A vector by its coordinate. -/
abbrev vec {n : ℕ} (v : (⟨1, ![n]⟩ : Shape).Idx → EReal) : Fin n → EReal := fun j => v (ix1 j)

/-- The logistic function written out, as a kernel spells it. -/
theorem logistic_eq (x : EReal) : Ideal.div 1 (1 + Ideal.exp (0 - x)) = Ideal.logistic x := by
  rw [zero_sub]; rfl

/-- A magnitude is not negative. -/
theorem mag_nonneg (x : EReal) : 0 ≤ mag x := by
  show 0 ≤ max x (-x)
  rcases le_total 0 x with h | h
  · exact le_max_of_le_left h
  · exact le_max_of_le_right (EReal.neg_nonneg.mpr h)

/-- The word of minus infinity. -/
theorem negInf_eq : Ideal.ofBits .f32 0xFF800000#32 = ⊥ := by simp [Ideal.ofBits, Ideal.ieee]

/-- The largest size among the first `n` entries of a row, started from zero. -/
def upTo {N : ℕ} (f : Fin N → EReal) (n : ℕ) : EReal :=
  (Finset.univ.filter fun k : Fin N => k.val < n).fold max 0 fun k => mag (f k)

/-- The maximum of no entries is 0. -/
theorem upTo_zero {N : ℕ} (f : Fin N → EReal) : upTo f 0 = 0 := by simp [upTo]

/-- The running maximum takes in a chunk of `w` entries. -/
theorem upTo_step {N : ℕ} (f : Fin N → EReal) (n w : ℕ) (g : Fin w → EReal) (hn : n + w ≤ N)
    (hg : ∀ k : Fin w, g k = f ⟨n + k.val, by have := k.isLt; omega⟩) :
    max (upTo f n) (rowMax g) = upTo f (n + w) := by
  unfold upTo rowMax
  rw [negInf_eq]
  apply le_antisymm
  · rw [max_le_iff, Finset.fold_max_le, Finset.fold_max_le]
    refine ⟨⟨Finset.le_fold_max _ |>.mpr (Or.inl le_rfl), fun k hk => ?_⟩, bot_le, fun k _ => ?_⟩
    · refine Finset.le_fold_max _ |>.mpr (Or.inr ⟨k, ?_, le_rfl⟩)
      have := (Finset.mem_filter.mp hk).2
      exact Finset.mem_filter.mpr ⟨Finset.mem_univ _, by omega⟩
    · refine Finset.le_fold_max _ |>.mpr (Or.inr ⟨⟨n + k.val, by have := k.isLt; omega⟩, ?_, by rw [hg k]⟩)
      exact Finset.mem_filter.mpr ⟨Finset.mem_univ _, by have := k.isLt; show n + k.val < n + w; omega⟩
  · rw [Finset.fold_max_le]
    refine ⟨le_max_of_le_left (Finset.le_fold_max _ |>.mpr (Or.inl le_rfl)), fun k hk => ?_⟩
    have hk' := (Finset.mem_filter.mp hk).2
    by_cases h : k.val < n
    · exact le_max_of_le_left (Finset.le_fold_max _ |>.mpr (Or.inr ⟨k, Finset.mem_filter.mpr ⟨Finset.mem_univ _, h⟩, le_rfl⟩))
    · refine le_max_of_le_right (Finset.le_fold_max _ |>.mpr (Or.inr ⟨⟨k.val - n, by omega⟩, Finset.mem_univ _, ?_⟩))
      rw [hg]
      exact le_of_eq (congrArg (fun i => mag (f i)) (Fin.ext (by show k.val = n + (k.val - n); omega)))

/-- Over the whole of a row that has an entry, the start does not matter: every size is at least zero. -/
theorem upTo_all {N : ℕ} (f : Fin N → EReal) (h : 0 < N) : upTo f N = rowMax f := by
  unfold upTo rowMax
  rw [negInf_eq, Finset.filter_true_of_mem fun k _ => k.isLt]
  apply le_antisymm
  · rw [Finset.fold_max_le]
    exact ⟨Finset.le_fold_max _ |>.mpr (Or.inr ⟨⟨0, h⟩, Finset.mem_univ _, mag_nonneg _⟩),
      fun k hk => Finset.le_fold_max _ |>.mpr (Or.inr ⟨k, hk, le_rfl⟩)⟩
  · rw [Finset.fold_max_le]
    exact ⟨bot_le, fun k hk => Finset.le_fold_max _ |>.mpr (Or.inr ⟨k, hk, le_rfl⟩)⟩

/-! ## The half of the block, for one row

`a` is the row of the attention's result, `x` the row of the residual stream. -/

section Half

variable (a x : Fin 1280 → EReal) (wo : Fin 1280 → Fin 1280 → EReal) (so bo g2 : Fin 1280 → EReal)
  (wg : Fin 1280 → Fin 3420 → EReal) (sg bg : Fin 3420 → EReal)
  (wu : Fin 1280 → Fin 3420 → EReal) (su bu : Fin 3420 → EReal)
  (wd : Fin 3420 → Fin 1280 → EReal) (sd bd : Fin 1280 → EReal)

/-- The residual stream after the output projection. -/
def h1 (j : Fin 1280) : EReal := x j + linear (code a) (scale a) wo so bo j

/-- Its normalised row. -/
def normed (j : Fin 1280) : EReal := rms (h1 a x wo so bo) g2 j

/-- The gated activations from a quantised row. -/
def actOf (c : Fin 1280 → EReal) (s : EReal) (j : Fin 3420) : EReal :=
  gate (linear c s wg sg bg j) (linear c s wu su bu j)

/-- The gated activations of the row. -/
def act (j : Fin 3420) : EReal :=
  actOf wg sg bg wu su bu (code (normed a x wo so bo g2)) (scale (normed a x wo so bo g2)) j

/-- The block's result. -/
def out (j : Fin 1280) : EReal :=
  h1 a x wo so bo j + linear (code (act a x wo so bo g2 wg sg bg wu su bu)) (scale (act a x wo so bo g2 wg sg bg wu su bu))
    wd sd bd j

end Half

end Cert.Rows
-- ==== Proof.Mlp.KernelRows.lean ====
module

public import Idealize.ShloMosaic.Lib.Pointwise
public import Idealize.ShloMosaic.Lib.Pipeline.ValueKit
public import Idealize.ShloMosaic.Lib.Ring
public import proofs.«01_k».proof.Proof.Gen.MlpIdeal.Skeleton
public import proofs.«01_k».proof.Proof.Mlp.Rows

@[expose] public section

/-! The kernel's named values over one block of 256 rows, read at one index: each is the row function of `Cert.Rows` at
that row. The gate's and the up projection run in fourteen chunks of columns, thirteen 256 wide and one 92 wide. -/

set_option maxRecDepth 16384

noncomputable section

namespace Cert.MlpRows

open Idealize.ShloMosaic Idealize.ShloMosaic.Tactic Cert.MlpIdeal Cert.MlpIdeal.Gen Cert.Rows

/-! ## The pieces the kernel is made of, over any operands -/

/-- The scale from the largest sizes. -/
theorem scaleOf_at (v : FVec Ideal S256x1 .f32) (r : Fin 256) :
    select (cmpf .oeq v (broadcast S256x1 (Scalar.ofBits .f32 0x00000000#32 : Ideal .f32)))
      (broadcast S256x1 (Scalar.ofBits .f32 0x3F800000#32 : Ideal .f32))
      (divf v (broadcast S256x1 (Scalar.ofBits .f32 0x43E00000#32 : Ideal .f32))) (ix2 r 0) = scaleOf (v (ix2 r 0)) := by
  pointwise
  rfl

/-- The scales laid along the lanes. -/
theorem lanes_at (s : FVec Ideal S256x1 .f32) (r : Fin 256) :
    extractStridedSlice S1x256 ![0, 0] (transpose S128x256 [1, 0] (broadcastTo S256x128
      (shapeCast S256x1 s shapeCasts_S256x1_S256x1) broadcasts_S256x1_S256x128) transposes_S256x128_p1_0_S128x256)
      slices_S128x256_o0_0_S1x256 (ix2 0 r) = s (ix2 r 0) := by
  pointwise

/-- An index of a matrix is a row and a column. -/
theorem exists_ix2 {n m : ℕ} (x : (⟨2, ![n, m]⟩ : Shape).Idx) : ∃ (r : Fin n) (l : Fin m), x = ix2 r l :=
  ⟨x 0, x 1, by funext a; fin_cases a <;> rfl⟩

/-- The largest size in the rows of a 1280-wide block. -/
theorem rowMax_1280 (v : FVec Ideal S256x1280 .f32) (r : Fin 256) :
    shapeCast S256x1 (multiReduction .maximumf [1] S256 (absf v) 0xFF800000#32 reduces_S256x1280_S256 (.inl rfl) rfl)
      shapeCasts_S256_S256x1 (ix2 r 0) = rowMax (row v r) := by
  pointwise
  rfl

/-- The largest size in the rows of a 256-wide block. -/
theorem rowMax_256 (v : FVec Ideal S256x256 .f32) (r : Fin 256) :
    shapeCast S256x1 (multiReduction .maximumf [1] S256 (absf v) 0xFF800000#32 reduces_S256x256_S256 (.inl rfl) rfl)
      shapeCasts_S256_S256x1 (ix2 r 0) = rowMax (row v r) := by
  pointwise
  rfl

/-- The largest size in the rows of a 92-wide block. -/
theorem rowMax_92 (v : FVec Ideal S256x92 .f32) (r : Fin 256) :
    shapeCast S256x1 (multiReduction .maximumf [1] S256 (absf v) 0xFF800000#32 reduces_S256x92_S256 (.inl rfl) rfl)
      shapeCasts_S256_S256x1 (ix2 r 0) = rowMax (row v r) := by
  pointwise
  rfl

/-- The codes of a 1280-wide block under its scales. -/
theorem code_1280 (v : FVec Ideal S256x1280 .f32) (s : FVec Ideal S256x1 .f32) (r : Fin 256) (j : Fin 1280) :
    (truncf .fp8e4m3 (minimumf (broadcast S256x1280 (Scalar.ofBits .f32 0x43E00000#32 : Ideal .f32))
      (maximumf (broadcast S256x1280 (Scalar.ofBits .f32 0xC3E00000#32 : Ideal .f32))
        (divf v (broadcastTo S256x1280 s broadcasts_S256x1_S256x1280))))
      bitsLt_fp8e4m3_f32 : FVec Ideal S256x1280 .fp8e4m3) (ix2 r j) = codeOf (v (ix2 r j)) (s (ix2 r 0)) := by
  pointwise
  rfl

/-- The codes of a 3420-wide block under its scales. -/
theorem code_3420 (v : FVec Ideal S256x3420 .f32) (s : FVec Ideal S256x1 .f32) (r : Fin 256) (j : Fin 3420) :
    (truncf .fp8e4m3 (minimumf (broadcast S256x3420 (Scalar.ofBits .f32 0x43E00000#32 : Ideal .f32))
      (maximumf (broadcast S256x3420 (Scalar.ofBits .f32 0xC3E00000#32 : Ideal .f32))
        (divf v (broadcastTo S256x3420 s broadcasts_S256x1_S256x3420))))
      bitsLt_fp8e4m3_f32 : FVec Ideal S256x3420 .fp8e4m3) (ix2 r j) = codeOf (v (ix2 r j)) (s (ix2 r 0)) := by
  pointwise
  rfl

/-- The output projection of a block. -/
def lin1280 (c : FVec Ideal S256x1280 .fp8e4m3) (s : FVec Ideal S256x1 .f32) (w : FVec Ideal S1280x1280 .fp8e4m3)
    (sw b : FVec Ideal S1x1280 .f32) : FVec Ideal S256x1280 .f32 :=
  addf (mulf (mulf (matmul dot_S256x1280_S1280x1280_S256x1280_1_0_0_1_n_n none c w (constant S256x1280 .f32 0x00000000#32))
        (broadcastTo S256x1280 s broadcasts_S256x1_S256x1280))
      (broadcastTo S256x1280 (shapeCast S1x1280 sw shapeCasts_S1x1280_S1x1280) broadcasts_S1x1280_S256x1280))
    (broadcastTo S256x1280 (shapeCast S1x1280 b shapeCasts_S1x1280_S1x1280) broadcasts_S1x1280_S256x1280)

/-- The output projection at an index. -/
theorem lin1280_at (c : FVec Ideal S256x1280 .fp8e4m3) (s : FVec Ideal S256x1 .f32) (w : FVec Ideal S1280x1280 .fp8e4m3)
    (sw b : FVec Ideal S1x1280 .f32) (r : Fin 256) (l : Fin 1280) :
    lin1280 c s w sw b (ix2 r l) = linear (row c r) (s (ix2 r 0)) (mat w) (row sw 0) (row b 0) l := by
  pointwise [lin1280]
  rfl

/-- A 256-wide chunk of the gate's or the up projection. -/
def lin256 (c : FVec Ideal S256x1280 .fp8e4m3) (s : FVec Ideal S256x1 .f32) (w : FVec Ideal S1280x256 .fp8e4m3)
    (sw b : FVec Ideal S1x256 .f32) : FVec Ideal S256x256 .f32 :=
  addf (mulf (mulf (matmul dot_S256x1280_S1280x256_S256x256_1_0_0_1_n_n none c w (constant S256x256 .f32 0x00000000#32))
        (broadcastTo S256x256 s broadcasts_S256x1_S256x256))
      (broadcastTo S256x256 (shapeCast S1x256 sw shapeCasts_S1x256_S1x256) broadcasts_S1x256_S256x256))
    (broadcastTo S256x256 (shapeCast S1x256 b shapeCasts_S1x256_S1x256) broadcasts_S1x256_S256x256)

/-- The chunk at an index. -/
theorem lin256_at (c : FVec Ideal S256x1280 .fp8e4m3) (s : FVec Ideal S256x1 .f32) (w : FVec Ideal S1280x256 .fp8e4m3)
    (sw b : FVec Ideal S1x256 .f32) (r : Fin 256) (l : Fin 256) :
    lin256 c s w sw b (ix2 r l) = linear (row c r) (s (ix2 r 0)) (mat w) (row sw 0) (row b 0) l := by
  pointwise [lin256]
  rfl

/-- The last chunk of the gate's or the up projection. -/
def lin92 (c : FVec Ideal S256x1280 .fp8e4m3) (s : FVec Ideal S256x1 .f32) (w : FVec Ideal S1280x92 .fp8e4m3)
    (sw b : FVec Ideal S1x92 .f32) : FVec Ideal S256x92 .f32 :=
  addf (mulf (mulf (matmul dot_S256x1280_S1280x92_S256x92_1_0_0_1_n_n none c w (constant S256x92 .f32 0x00000000#32))
        (broadcastTo S256x92 s broadcasts_S256x1_S256x92))
      (broadcastTo S256x92 (shapeCast S1x92 sw shapeCasts_S1x92_S1x92) broadcasts_S1x92_S256x92))
    (broadcastTo S256x92 (shapeCast S1x92 b shapeCasts_S1x92_S1x92) broadcasts_S1x92_S256x92)

/-- The last chunk at an index. -/
theorem lin92_at (c : FVec Ideal S256x1280 .fp8e4m3) (s : FVec Ideal S256x1 .f32) (w : FVec Ideal S1280x92 .fp8e4m3)
    (sw b : FVec Ideal S1x92 .f32) (r : Fin 256) (l : Fin 92) :
    lin92 c s w sw b (ix2 r l) = linear (row c r) (s (ix2 r 0)) (mat w) (row sw 0) (row b 0) l := by
  pointwise [lin92]
  rfl

/-- The down projection of a block. -/
def linD (c : FVec Ideal S256x3420 .fp8e4m3) (s : FVec Ideal S256x1 .f32) (w : FVec Ideal S3420x1280 .fp8e4m3)
    (sw b : FVec Ideal S1x1280 .f32) : FVec Ideal S256x1280 .f32 :=
  addf (mulf (mulf (matmul dot_S256x3420_S3420x1280_S256x1280_1_0_0_1_n_n none c w (constant S256x1280 .f32 0x00000000#32))
        (broadcastTo S256x1280 s broadcasts_S256x1_S256x1280))
      (broadcastTo S256x1280 (shapeCast S1x1280 sw shapeCasts_S1x1280_S1x1280) broadcasts_S1x1280_S256x1280))
    (broadcastTo S256x1280 (shapeCast S1x1280 b shapeCasts_S1x1280_S1x1280) broadcasts_S1x1280_S256x1280)

/-- The down projection at an index. -/
theorem linD_at (c : FVec Ideal S256x3420 .fp8e4m3) (s : FVec Ideal S256x1 .f32) (w : FVec Ideal S3420x1280 .fp8e4m3)
    (sw b : FVec Ideal S1x1280 .f32) (r : Fin 256) (l : Fin 1280) :
    linD c s w sw b (ix2 r l) = linear (row c r) (s (ix2 r 0)) (mat w) (row sw 0) (row b 0) l := by
  pointwise [linD]
  rfl

/-- The gated product of two 256-wide blocks. -/
def gated256 (g u : FVec Ideal S256x256 .f32) : FVec Ideal S256x256 .f32 :=
  mulf (mulf g (divf (broadcast S256x256 (Scalar.ofBits .f32 0x3F800000#32 : Ideal .f32))
    (addf (broadcast S256x256 (Scalar.ofBits .f32 0x3F800000#32 : Ideal .f32))
      (exp (subf (broadcast S256x256 (Scalar.ofBits .f32 0x00000000#32 : Ideal .f32)) g))))) u

/-- The gate of a chunk at one entry. -/
theorem gated256_at (g u : FVec Ideal S256x256 .f32) (r : Fin 256) (l : Fin 256) :
    gated256 g u (ix2 r l) = gate (g (ix2 r l)) (u (ix2 r l)) := by
  refine Eq.trans ?_ (congrArg (fun q => g (ix2 r l) * q * u (ix2 r l)) (logistic_eq (g (ix2 r l))))
  pointwise [gated256]

/-- The gated product of two 92-wide blocks. -/
def gated92 (g u : FVec Ideal S256x92 .f32) : FVec Ideal S256x92 .f32 :=
  mulf (mulf g (divf (broadcast S256x92 (Scalar.ofBits .f32 0x3F800000#32 : Ideal .f32))
    (addf (broadcast S256x92 (Scalar.ofBits .f32 0x3F800000#32 : Ideal .f32))
      (exp (subf (broadcast S256x92 (Scalar.ofBits .f32 0x00000000#32 : Ideal .f32)) g))))) u

/-- The gate of the last chunk at one entry. -/
theorem gated92_at (g u : FVec Ideal S256x92 .f32) (r : Fin 256) (l : Fin 92) :
    gated92 g u (ix2 r l) = gate (g (ix2 r l)) (u (ix2 r l)) := by
  refine Eq.trans ?_ (congrArg (fun q => g (ix2 r l) * q * u (ix2 r l)) (logistic_eq (g (ix2 r l))))
  pointwise [gated92]

/-- The normalised rows of a block. -/
def rmsB (h : FVec Ideal S256x1280 .f32) (g : Vec Ideal S1x1280 .f32) : FVec Ideal S256x1280 .f32 :=
  mulf (divf h (broadcastTo S256x1280 (sqrt (addf (divf (shapeCast S256x1 (multiReduction .add [1] S256 (mulf h h)
      0x00000000#32 reduces_S256x1280_S256 (.inl rfl) rfl) shapeCasts_S256_S256x1)
      (broadcast S256x1 (Scalar.ofBits .f32 0x44A00000#32 : Ideal .f32)))
      (broadcast S256x1 (Scalar.ofBits .f32 0x358637BD#32 : Ideal .f32)))) broadcasts_S256x1_S256x1280))
    (broadcastTo S256x1280 (shapeCast S1x1280 g shapeCasts_S1x1280_S1x1280) broadcasts_S1x1280_S256x1280)

/-- The norm of a block at one entry. -/
theorem rmsB_at (h : FVec Ideal S256x1280 .f32) (g : Vec Ideal S1x1280 .f32) (r : Fin 256) (j : Fin 1280) :
    rmsB h g (ix2 r j) = rms (row h r) (row g 0) j := by
  pointwise [rmsB]
  rfl

/-- The gated activations of a block, from its codes and scales. -/
def blockAct (gs : FVec Ideal S256x1 .f32) (gc : FVec Ideal S256x1280 .fp8e4m3) (x6 : Vec Ideal S1280x3420 .fp8e4m3) (x7 x8 : Vec Ideal S1x3420 .f32)
  (x9 : Vec Ideal S1280x3420 .fp8e4m3) (x10 x11 : Vec Ideal S1x3420 .f32)
    (r : Fin 256) : Fin 3420 → EReal :=
  actOf (mat x6) (row x7 0) (row x8 0) (mat x9) (row x10 0) (row x11 0) (row gc r) (gs (ix2 r 0))

/-! ## The chunks -/

/-- 256 columns of a weight matrix, from column `o`. -/
def cutW (x : Vec Ideal S1280x3420 .fp8e4m3) (o : ℕ) (h : o + 256 ≤ 3420) : Vec Ideal S1280x256 .fp8e4m3 :=
  View.ld (Val := Elt Ideal) (S := S1280x3420) (e' := .fp8e4m3) x (Rect.unit (s := S1280x3420) ![0, o] ![1280, 256] (Fin.forall_fin_two.mpr ⟨Nat.le_refl 1280, h⟩))

/-- 256 entries of a row vector, from entry `o`. -/
def cutR (x : Vec Ideal S1x3420 .f32) (o : ℕ) (h : o + 256 ≤ 3420) : Vec Ideal S1x256 .f32 :=
  View.ld (Val := Elt Ideal) (S := S1x3420) (e' := .f32) x (Rect.unit (s := S1x3420) ![0, o] ![1, 256] (Fin.forall_fin_two.mpr ⟨Nat.le_refl 1, h⟩))

/-- A chunk of the weights at one entry. -/
theorem cutW_at (x : Vec Ideal S1280x3420 .fp8e4m3) (o : ℕ) (h : o + 256 ≤ 3420) (k : Fin 1280) (l : Fin 256) :
    cutW x o h (ix2 k l) = x (ix2 k ⟨o + l.val, by have := l.isLt; omega⟩) := by
  unfold cutW
  exact View.ld_unit_apply_of x _ _ _ (ix2 k l) (ix2 k ⟨o + l.val, by have := l.isLt; omega⟩) (Fin.forall_fin_two.mpr ⟨(Nat.zero_add _).symm, rfl⟩)

/-- A chunk of a row of scales or biases at one entry. -/
theorem cutR_at (x : Vec Ideal S1x3420 .f32) (o : ℕ) (h : o + 256 ≤ 3420) (l : Fin 256) :
    cutR x o h (ix2 0 l) = x (ix2 0 ⟨o + l.val, by have := l.isLt; omega⟩) := by
  unfold cutR
  exact View.ld_unit_apply_of x _ _ _ (ix2 0 l) (ix2 0 ⟨o + l.val, by have := l.isLt; omega⟩) (Fin.forall_fin_two.mpr ⟨(Nat.zero_add _).symm, rfl⟩)

/-- The linear layer on a chunk of the weights is that of the whole weights at the chunk's columns. -/
theorem lin256_cutW (c : FVec Ideal S256x1280 .fp8e4m3) (s : FVec Ideal S256x1 .f32) (x : Vec Ideal S1280x3420 .fp8e4m3)
    (sw b : Vec Ideal S1x3420 .f32) (o : ℕ) (h : o + 256 ≤ 3420) (r : Fin 256) (l : Fin 256) :
    lin256 c s (cutW x o h) (cutR sw o h) (cutR b o h) (ix2 r l)
      = linear (row c r) (s (ix2 r 0)) (mat x) (row sw 0) (row b 0) ⟨o + l.val, by have := l.isLt; omega⟩ := by
  rw [lin256_at]
  simp only [linear, cutW_at, cutR_at]

/-- A chunk of the gated activations. -/
theorem chunk256_at (gs : FVec Ideal S256x1 .f32) (gc : FVec Ideal S256x1280 .fp8e4m3) (x6 : Vec Ideal S1280x3420 .fp8e4m3) (x7 x8 : Vec Ideal S1x3420 .f32)
  (x9 : Vec Ideal S1280x3420 .fp8e4m3) (x10 x11 : Vec Ideal S1x3420 .f32) (o : ℕ) (h : o + 256 ≤ 3420) (r : Fin 256) (l : Fin 256) :
    gated256 (lin256 gc gs (cutW x6 o h) (cutR x7 o h) (cutR x8 o h)) (lin256 gc gs (cutW x9 o h) (cutR x10 o h) (cutR x11 o h)) (ix2 r l)
      = blockAct gs gc x6 x7 x8 x9 x10 x11 r ⟨o + l.val, by have := l.isLt; omega⟩ := by
  rw [gated256_at, lin256_cutW, lin256_cutW]
  rfl

/-- Storing a chunk changes no entry. -/
theorem cast256 (P : FVec Ideal S256x256 .f32) : shapeCast S256x256 P shapeCasts_S256x256_S256x256 = P := by
  pointwise

/-- The chunk as it is stored. -/
theorem stored256_at (gs : FVec Ideal S256x1 .f32) (gc : FVec Ideal S256x1280 .fp8e4m3) (x6 : Vec Ideal S1280x3420 .fp8e4m3) (x7 x8 : Vec Ideal S1x3420 .f32)
  (x9 : Vec Ideal S1280x3420 .fp8e4m3) (x10 x11 : Vec Ideal S1x3420 .f32) (o : ℕ) (h : o + 256 ≤ 3420) (r : Fin 256) (l : Fin 256) :
    shapeCast S256x256 (gated256 (lin256 gc gs (cutW x6 o h) (cutR x7 o h) (cutR x8 o h)) (lin256 gc gs (cutW x9 o h) (cutR x10 o h) (cutR x11 o h)))
      shapeCasts_S256x256_S256x256 (ix2 r l) = blockAct gs gc x6 x7 x8 x9 x10 x11 r ⟨o + l.val, by have := l.isLt; omega⟩ :=
  (congrFun (cast256 _) (ix2 r l)).trans (chunk256_at gs gc x6 x7 x8 x9 x10 x11 o h r l)

/-- The running maximum after one more chunk. -/
theorem chain256 (F : Fin 3420 → EReal) (v : FVec Ideal S256x1 .f32) (a : FVec Ideal S256x256 .f32) (r : Fin 256)
    (o : ℕ) (h : o + 256 ≤ 3420) (hv : v (ix2 r 0) = upTo F o)
    (ha : ∀ l : Fin 256, a (ix2 r l) = F ⟨o + l.val, by have := l.isLt; omega⟩) :
    maximumf v (shapeCast S256x1 (multiReduction .maximumf [1] S256 (absf a) 0xFF800000#32 reduces_S256x256_S256 (.inl rfl) rfl)
      shapeCasts_S256_S256x1) (ix2 r 0) = upTo F (o + 256) :=
  (congrArg₂ max hv (rowMax_256 a r)).trans (upTo_step F o 256 (row a r) h ha)

/-- A stored chunk is the tile of the activations its rectangle names. -/
theorem piece256 (F : Fin 256 → Fin 3420 → EReal) (o : ℕ) (h : o + 256 ≤ 3420) (inb) (P : FVec Ideal S256x256 .f32)
    (hP : ∀ (r : Fin 256) (l : Fin 256), P (ix2 r l) = F r ⟨o + l.val, by have := l.isLt; omega⟩) (x : S256x256.Idx) :
    P x = F ((Rect.unit (s := S256x3420) ![0, o] ![256, 256] inb).emb x 0) ((Rect.unit (s := S256x3420) ![0, o] ![256, 256] inb).emb x 1) := by
  obtain ⟨r, l, rfl⟩ := exists_ix2 x
  rw [hP]
  congr 1
  · exact Fin.ext (by show r.val = 0 + 1 * r.val; omega)
  · exact Fin.ext (by show o + l.val = o + 1 * l.val; omega)

/-- The last 92 columns of a weight matrix. -/
def endW (x : Vec Ideal S1280x3420 .fp8e4m3) : Vec Ideal S1280x92 .fp8e4m3 :=
  View.ld (Val := Elt Ideal) (S := S1280x3420) (e' := .fp8e4m3) x (Rect.unit (s := S1280x3420) ![0, 3328] ![1280, 92] (Fin.forall_fin_two.mpr ⟨Nat.le_refl 1280, by decide⟩))

/-- The last 92 entries of a row vector. -/
def endR (x : Vec Ideal S1x3420 .f32) : Vec Ideal S1x92 .f32 :=
  View.ld (Val := Elt Ideal) (S := S1x3420) (e' := .f32) x (Rect.unit (s := S1x3420) ![0, 3328] ![1, 92] (Fin.forall_fin_two.mpr ⟨Nat.le_refl 1, by decide⟩))

/-- The last chunk of the weights at one entry. -/
theorem endW_at (x : Vec Ideal S1280x3420 .fp8e4m3) (k : Fin 1280) (l : Fin 92) :
    endW x (ix2 k l) = x (ix2 k ⟨3328 + l.val, by have := l.isLt; omega⟩) := by
  unfold endW
  exact View.ld_unit_apply_of x _ _ _ (ix2 k l) (ix2 k ⟨3328 + l.val, by have := l.isLt; omega⟩) (Fin.forall_fin_two.mpr ⟨(Nat.zero_add _).symm, rfl⟩)

/-- The last chunk of a row of scales or biases at one entry. -/
theorem endR_at (x : Vec Ideal S1x3420 .f32) (l : Fin 92) :
    endR x (ix2 0 l) = x (ix2 0 ⟨3328 + l.val, by have := l.isLt; omega⟩) := by
  unfold endR
  exact View.ld_unit_apply_of x _ _ _ (ix2 0 l) (ix2 0 ⟨3328 + l.val, by have := l.isLt; omega⟩) (Fin.forall_fin_two.mpr ⟨(Nat.zero_add _).symm, rfl⟩)

/-- The linear layer on the last chunk of the weights is that of the whole weights at its columns. -/
theorem lin92_endW (c : FVec Ideal S256x1280 .fp8e4m3) (s : FVec Ideal S256x1 .f32) (x : Vec Ideal S1280x3420 .fp8e4m3)
    (sw b : Vec Ideal S1x3420 .f32) (r : Fin 256) (l : Fin 92) :
    lin92 c s (endW x) (endR sw) (endR b) (ix2 r l)
      = linear (row c r) (s (ix2 r 0)) (mat x) (row sw 0) (row b 0) ⟨3328 + l.val, by have := l.isLt; omega⟩ := by
  rw [lin92_at]
  simp only [linear, endW_at, endR_at]

/-- A chunk of the gated activations. -/
theorem chunk92_at (gs : FVec Ideal S256x1 .f32) (gc : FVec Ideal S256x1280 .fp8e4m3) (x6 : Vec Ideal S1280x3420 .fp8e4m3) (x7 x8 : Vec Ideal S1x3420 .f32)
  (x9 : Vec Ideal S1280x3420 .fp8e4m3) (x10 x11 : Vec Ideal S1x3420 .f32) (r : Fin 256) (l : Fin 92) :
    gated92 (lin92 gc gs (endW x6) (endR x7) (endR x8)) (lin92 gc gs (endW x9) (endR x10) (endR x11)) (ix2 r l)
      = blockAct gs gc x6 x7 x8 x9 x10 x11 r ⟨3328 + l.val, by have := l.isLt; omega⟩ := by
  rw [gated92_at, lin92_endW, lin92_endW]
  rfl

/-- Storing a chunk changes no entry. -/
theorem cast92 (P : FVec Ideal S256x92 .f32) : shapeCast S256x92 P shapeCasts_S256x92_S256x92 = P := by
  pointwise

/-- The chunk as it is stored. -/
theorem stored92_at (gs : FVec Ideal S256x1 .f32) (gc : FVec Ideal S256x1280 .fp8e4m3) (x6 : Vec Ideal S1280x3420 .fp8e4m3) (x7 x8 : Vec Ideal S1x3420 .f32)
  (x9 : Vec Ideal S1280x3420 .fp8e4m3) (x10 x11 : Vec Ideal S1x3420 .f32) (r : Fin 256) (l : Fin 92) :
    shapeCast S256x92 (gated92 (lin92 gc gs (endW x6) (endR x7) (endR x8)) (lin92 gc gs (endW x9) (endR x10) (endR x11)))
      shapeCasts_S256x92_S256x92 (ix2 r l) = blockAct gs gc x6 x7 x8 x9 x10 x11 r ⟨3328 + l.val, by have := l.isLt; omega⟩ :=
  (congrFun (cast92 _) (ix2 r l)).trans (chunk92_at gs gc x6 x7 x8 x9 x10 x11 r l)

/-- The running maximum after one more chunk. -/
theorem chain92 (F : Fin 3420 → EReal) (v : FVec Ideal S256x1 .f32) (a : FVec Ideal S256x92 .f32) (r : Fin 256)
    (o : ℕ) (h : o + 92 ≤ 3420) (hv : v (ix2 r 0) = upTo F o)
    (ha : ∀ l : Fin 92, a (ix2 r l) = F ⟨o + l.val, by have := l.isLt; omega⟩) :
    maximumf v (shapeCast S256x1 (multiReduction .maximumf [1] S256 (absf a) 0xFF800000#32 reduces_S256x92_S256 (.inl rfl) rfl)
      shapeCasts_S256_S256x1) (ix2 r 0) = upTo F (o + 92) :=
  (congrArg₂ max hv (rowMax_92 a r)).trans (upTo_step F o 92 (row a r) h ha)

/-- A stored chunk is the tile of the activations its rectangle names. -/
theorem piece92 (F : Fin 256 → Fin 3420 → EReal) (o : ℕ) (h : o + 92 ≤ 3420) (inb) (P : FVec Ideal S256x92 .f32)
    (hP : ∀ (r : Fin 256) (l : Fin 92), P (ix2 r l) = F r ⟨o + l.val, by have := l.isLt; omega⟩) (x : S256x92.Idx) :
    P x = F ((Rect.unit (s := S256x3420) ![0, o] ![256, 92] inb).emb x 0) ((Rect.unit (s := S256x3420) ![0, o] ![256, 92] inb).emb x 1) := by
  obtain ⟨r, l, rfl⟩ := exists_ix2 x
  rw [hP]
  congr 1
  · exact Fin.ext (by show r.val = 0 + 1 * r.val; omega)
  · exact Fin.ext (by show o + l.val = o + 1 * l.val; omega)

section Fold

variable (gs : FVec Ideal S256x1 .f32) (gc : FVec Ideal S256x1280 .fp8e4m3) (x6 : Vec Ideal S1280x3420 .fp8e4m3) (x7 x8 : Vec Ideal S1x3420 .f32)
  (x9 : Vec Ideal S1280x3420 .fp8e4m3) (x10 x11 : Vec Ideal S1x3420 .f32)

/-- The running maximum over the first thirteen chunks. -/
def am : FVec Ideal S256x1 .f32 :=
  k0_pay58 (k0_pay53 (k0_pay50 (k0_pay47 (k0_pay44 (k0_pay41 (k0_pay38 (k0_pay35 (k0_pay32 (k0_pay28 (k0_pay24 (k0_pay20 (k0_pay16 gs gc k0_pay13 (cutW x6 0 (by decide)) (cutR x7 0 (by decide)) (cutR x8 0 (by decide)) (cutW x9 0 (by decide)) (cutR x10 0 (by decide)) (cutR x11 0 (by decide))) (k0_pay19 gs gc (cutW x6 256 (by decide)) (cutR x7 256 (by decide)) (cutR x8 256 (by decide)) (cutW x9 256 (by decide)) (cutR x10 256 (by decide)) (cutR x11 256 (by decide)))) (k0_pay23 gs gc (cutW x6 512 (by decide)) (cutR x7 512 (by decide)) (cutR x8 512 (by decide)) (cutW x9 512 (by decide)) (cutR x10 512 (by decide)) (cutR x11 512 (by decide)))) (k0_pay27 gs gc (cutW x6 768 (by decide)) (cutR x7 768 (by decide)) (cutR x8 768 (by decide)) (cutW x9 768 (by decide)) (cutR x10 768 (by decide)) (cutR x11 768 (by decide)))) (k0_pay31 gs gc (cutW x6 1024 (by decide)) (cutR x7 1024 (by decide)) (cutR x8 1024 (by decide)) (cutW x9 1024 (by decide)) (cutR x10 1024 (by decide)) (cutR x11 1024 (by decide)))) (k0_pay33 gs gc (cutW x6 1280 (by decide)) (cutR x7 1280 (by decide)) (cutR x8 1280 (by decide)) (cutW x9 1280 (by decide)) (cutR x10 1280 (by decide)) (cutR x11 1280 (by decide)))) (k0_pay36 gs gc (cutW x6 1536 (by decide)) (cutR x7 1536 (by decide)) (cutR x8 1536 (by decide)) (cutW x9 1536 (by decide)) (cutR x10 1536 (by decide)) (cutR x11 1536 (by decide)))) (k0_pay39 gs gc (cutW x6 1792 (by decide)) (cutR x7 1792 (by decide)) (cutR x8 1792 (by decide)) (cutW x9 1792 (by decide)) (cutR x10 1792 (by decide)) (cutR x11 1792 (by decide)))) (k0_pay42 gs gc (cutW x6 2048 (by decide)) (cutR x7 2048 (by decide)) (cutR x8 2048 (by decide)) (cutW x9 2048 (by decide)) (cutR x10 2048 (by decide)) (cutR x11 2048 (by decide)))) (k0_pay45 gs gc (cutW x6 2304 (by decide)) (cutR x7 2304 (by decide)) (cutR x8 2304 (by decide)) (cutW x9 2304 (by decide)) (cutR x10 2304 (by decide)) (cutR x11 2304 (by decide)))) (k0_pay48 gs gc (cutW x6 2560 (by decide)) (cutR x7 2560 (by decide)) (cutR x8 2560 (by decide)) (cutW x9 2560 (by decide)) (cutR x10 2560 (by decide)) (cutR x11 2560 (by decide)))) (k0_pay51 gs gc (cutW x6 2816 (by decide)) (cutR x7 2816 (by decide)) (cutR x8 2816 (by decide)) (cutW x9 2816 (by decide)) (cutR x10 2816 (by decide)) (cutR x11 2816 (by decide)))) (k0_pay54 gs gc (cutW x9 3072 (by decide)) (cutR x10 3072 (by decide)) (cutR x11 3072 (by decide))) (k0_pay55 gs gc (cutW x6 3072 (by decide)) (cutR x7 3072 (by decide)) (cutR x8 3072 (by decide)))

/-- The last chunk's gate, up projection and logistic. -/
def g13 : FVec Ideal S256x92 .f32 := k0_pay59 gs gc (endW x6) (endR x7) (endR x8)
def u13 : FVec Ideal S256x92 .f32 := k0_pay60 gs gc (endW x9) (endR x10) (endR x11)
def s13 : FVec Ideal S256x92 .f32 := k0_pay61 gs gc (endW x6) (endR x7) (endR x8)

/-- The activations' buffer: the chunks as they were stored, the last first. -/
def pieces : List (View.Piece (Elt Ideal) S256x3420 .f32) :=
  [⟨Rect.unit ![0, 3328] ![256, 92] inb_S256x3420_S256x92_0_3328, k0_pay63 (k0_pay59 gs gc (endW x6) (endR x7) (endR x8)) (k0_pay60 gs gc (endW x9) (endR x10) (endR x11)) (k0_pay61 gs gc (endW x6) (endR x7) (endR x8))⟩,
   ⟨Rect.unit ![0, 3072] ![256, 256] inb_S256x3420_S256x256_0_3072, k0_pay57 (k0_pay54 gs gc (cutW x9 3072 (by decide)) (cutR x10 3072 (by decide)) (cutR x11 3072 (by decide))) (k0_pay55 gs gc (cutW x6 3072 (by decide)) (cutR x7 3072 (by decide)) (cutR x8 3072 (by decide)))⟩,
   ⟨Rect.unit ![0, 2816] ![256, 256] inb_S256x3420_S256x256_0_2816, k0_pay52 (k0_pay51 gs gc (cutW x6 2816 (by decide)) (cutR x7 2816 (by decide)) (cutR x8 2816 (by decide)) (cutW x9 2816 (by decide)) (cutR x10 2816 (by decide)) (cutR x11 2816 (by decide)))⟩,
   ⟨Rect.unit ![0, 2560] ![256, 256] inb_S256x3420_S256x256_0_2560, k0_pay49 (k0_pay48 gs gc (cutW x6 2560 (by decide)) (cutR x7 2560 (by decide)) (cutR x8 2560 (by decide)) (cutW x9 2560 (by decide)) (cutR x10 2560 (by decide)) (cutR x11 2560 (by decide)))⟩,
   ⟨Rect.unit ![0, 2304] ![256, 256] inb_S256x3420_S256x256_0_2304, k0_pay46 (k0_pay45 gs gc (cutW x6 2304 (by decide)) (cutR x7 2304 (by decide)) (cutR x8 2304 (by decide)) (cutW x9 2304 (by decide)) (cutR x10 2304 (by decide)) (cutR x11 2304 (by decide)))⟩,
   ⟨Rect.unit ![0, 2048] ![256, 256] inb_S256x3420_S256x256_0_2048, k0_pay43 (k0_pay42 gs gc (cutW x6 2048 (by decide)) (cutR x7 2048 (by decide)) (cutR x8 2048 (by decide)) (cutW x9 2048 (by decide)) (cutR x10 2048 (by decide)) (cutR x11 2048 (by decide)))⟩,
   ⟨Rect.unit ![0, 1792] ![256, 256] inb_S256x3420_S256x256_0_1792, k0_pay40 (k0_pay39 gs gc (cutW x6 1792 (by decide)) (cutR x7 1792 (by decide)) (cutR x8 1792 (by decide)) (cutW x9 1792 (by decide)) (cutR x10 1792 (by decide)) (cutR x11 1792 (by decide)))⟩,
   ⟨Rect.unit ![0, 1536] ![256, 256] inb_S256x3420_S256x256_0_1536, k0_pay37 gs gc (cutW x6 1536 (by decide)) (cutR x7 1536 (by decide)) (cutR x8 1536 (by decide)) (cutW x9 1536 (by decide)) (cutR x10 1536 (by decide)) (cutR x11 1536 (by decide))⟩,
   ⟨Rect.unit ![0, 1280] ![256, 256] inb_S256x3420_S256x256_0_1280, k0_pay34 gs gc (cutW x6 1280 (by decide)) (cutR x7 1280 (by decide)) (cutR x8 1280 (by decide)) (cutW x9 1280 (by decide)) (cutR x10 1280 (by decide)) (cutR x11 1280 (by decide))⟩,
   ⟨Rect.unit ![0, 1024] ![256, 256] inb_S256x3420_S256x256_0_1024, k0_pay30 gs gc (cutW x6 1024 (by decide)) (cutR x7 1024 (by decide)) (cutR x8 1024 (by decide)) (cutW x9 1024 (by decide)) (cutR x10 1024 (by decide)) (cutR x11 1024 (by decide))⟩,
   ⟨Rect.unit ![0, 768] ![256, 256] inb_S256x3420_S256x256_0_768, k0_pay26 gs gc (cutW x6 768 (by decide)) (cutR x7 768 (by decide)) (cutR x8 768 (by decide)) (cutW x9 768 (by decide)) (cutR x10 768 (by decide)) (cutR x11 768 (by decide))⟩,
   ⟨Rect.unit ![0, 512] ![256, 256] inb_S256x3420_S256x256_0_512, k0_pay22 gs gc (cutW x6 512 (by decide)) (cutR x7 512 (by decide)) (cutR x8 512 (by decide)) (cutW x9 512 (by decide)) (cutR x10 512 (by decide)) (cutR x11 512 (by decide))⟩,
   ⟨Rect.unit ![0, 256] ![256, 256] inb_S256x3420_S256x256_0_256, k0_pay18 gs gc (cutW x6 256 (by decide)) (cutR x7 256 (by decide)) (cutR x8 256 (by decide)) (cutW x9 256 (by decide)) (cutR x10 256 (by decide)) (cutR x11 256 (by decide))⟩,
   ⟨Rect.unit ![0, 0] ![256, 256] inb_S256x3420_S256x256_0_0, k0_pay15 gs gc (cutW x6 0 (by decide)) (cutR x7 0 (by decide)) (cutR x8 0 (by decide)) (cutW x9 0 (by decide)) (cutR x10 0 (by decide)) (cutR x11 0 (by decide))⟩]

/-- The running maximum before the last chunk is that of the first 3328 activations. -/
theorem am_at (r : Fin 256) : am gs gc x6 x7 x8 x9 x10 x11 (ix2 r 0) = upTo (blockAct gs gc x6 x7 x8 x9 x10 x11 r) 3328 := by
  have e0 : (k0_pay13 : FVec Ideal S256x1 .f32) (ix2 r 0) = upTo (blockAct gs gc x6 x7 x8 x9 x10 x11 r) 0 := by
    rw [upTo_zero]
    pointwise [k0_pay13]
  have e1 := chain256 (blockAct gs gc x6 x7 x8 x9 x10 x11 r) _ _ r 0 (by decide) e0 (fun l => chunk256_at gs gc x6 x7 x8 x9 x10 x11 0 (by decide) r l)
  have e2 := chain256 (blockAct gs gc x6 x7 x8 x9 x10 x11 r) _ _ r 256 (by decide) e1 (fun l => chunk256_at gs gc x6 x7 x8 x9 x10 x11 256 (by decide) r l)
  have e3 := chain256 (blockAct gs gc x6 x7 x8 x9 x10 x11 r) _ _ r 512 (by decide) e2 (fun l => chunk256_at gs gc x6 x7 x8 x9 x10 x11 512 (by decide) r l)
  have e4 := chain256 (blockAct gs gc x6 x7 x8 x9 x10 x11 r) _ _ r 768 (by decide) e3 (fun l => chunk256_at gs gc x6 x7 x8 x9 x10 x11 768 (by decide) r l)
  have e5 := chain256 (blockAct gs gc x6 x7 x8 x9 x10 x11 r) _ _ r 1024 (by decide) e4 (fun l => chunk256_at gs gc x6 x7 x8 x9 x10 x11 1024 (by decide) r l)
  have e6 := chain256 (blockAct gs gc x6 x7 x8 x9 x10 x11 r) _ _ r 1280 (by decide) e5 (fun l => chunk256_at gs gc x6 x7 x8 x9 x10 x11 1280 (by decide) r l)
  have e7 := chain256 (blockAct gs gc x6 x7 x8 x9 x10 x11 r) _ _ r 1536 (by decide) e6 (fun l => chunk256_at gs gc x6 x7 x8 x9 x10 x11 1536 (by decide) r l)
  have e8 := chain256 (blockAct gs gc x6 x7 x8 x9 x10 x11 r) _ _ r 1792 (by decide) e7 (fun l => chunk256_at gs gc x6 x7 x8 x9 x10 x11 1792 (by decide) r l)
  have e9 := chain256 (blockAct gs gc x6 x7 x8 x9 x10 x11 r) _ _ r 2048 (by decide) e8 (fun l => chunk256_at gs gc x6 x7 x8 x9 x10 x11 2048 (by decide) r l)
  have e10 := chain256 (blockAct gs gc x6 x7 x8 x9 x10 x11 r) _ _ r 2304 (by decide) e9 (fun l => chunk256_at gs gc x6 x7 x8 x9 x10 x11 2304 (by decide) r l)
  have e11 := chain256 (blockAct gs gc x6 x7 x8 x9 x10 x11 r) _ _ r 2560 (by decide) e10 (fun l => chunk256_at gs gc x6 x7 x8 x9 x10 x11 2560 (by decide) r l)
  have e12 := chain256 (blockAct gs gc x6 x7 x8 x9 x10 x11 r) _ _ r 2816 (by decide) e11 (fun l => chunk256_at gs gc x6 x7 x8 x9 x10 x11 2816 (by decide) r l)
  have e13 := chain256 (blockAct gs gc x6 x7 x8 x9 x10 x11 r) _ _ r 3072 (by decide) e12 (fun l => chunk256_at gs gc x6 x7 x8 x9 x10 x11 3072 (by decide) r l)
  exact e13

/-- The scratch put together from the 14 chunks, at one entry. -/
theorem pieces_at (r : Fin 256) (j : Fin 3420) :
    View.canon (pieces gs gc x6 x7 x8 x9 x10 x11) (ix2 r j) = blockAct gs gc x6 x7 x8 x9 x10 x11 r j := by
  refine View.canon_apply_of_pieces (Val := Elt Ideal) (S := S256x3420) (e := .f32) (fun y : S256x3420.Idx => blockAct gs gc x6 x7 x8 x9 x10 x11 (y 0) (y 1)) _ ?_ (ix2 r j) ?_
  · unfold pieces
    refine List.forall_mem_cons.mpr ⟨piece92 (blockAct gs gc x6 x7 x8 x9 x10 x11) 3328 (by decide) inb_S256x3420_S256x92_0_3328
      (k0_pay63 (k0_pay59 gs gc (endW x6) (endR x7) (endR x8)) (k0_pay60 gs gc (endW x9) (endR x10) (endR x11)) (k0_pay61 gs gc (endW x6) (endR x7) (endR x8))) (stored92_at gs gc x6 x7 x8 x9 x10 x11), ?_⟩
    refine List.forall_mem_cons.mpr ⟨piece256 (blockAct gs gc x6 x7 x8 x9 x10 x11) 3072 (by decide) inb_S256x3420_S256x256_0_3072
      (k0_pay57 (k0_pay54 gs gc (cutW x9 3072 (by decide)) (cutR x10 3072 (by decide)) (cutR x11 3072 (by decide))) (k0_pay55 gs gc (cutW x6 3072 (by decide)) (cutR x7 3072 (by decide)) (cutR x8 3072 (by decide)))) (stored256_at gs gc x6 x7 x8 x9 x10 x11 3072 (by decide)), ?_⟩
    refine List.forall_mem_cons.mpr ⟨piece256 (blockAct gs gc x6 x7 x8 x9 x10 x11) 2816 (by decide) inb_S256x3420_S256x256_0_2816
      (k0_pay52 (k0_pay51 gs gc (cutW x6 2816 (by decide)) (cutR x7 2816 (by decide)) (cutR x8 2816 (by decide)) (cutW x9 2816 (by decide)) (cutR x10 2816 (by decide)) (cutR x11 2816 (by decide)))) (stored256_at gs gc x6 x7 x8 x9 x10 x11 2816 (by decide)), ?_⟩
    refine List.forall_mem_cons.mpr ⟨piece256 (blockAct gs gc x6 x7 x8 x9 x10 x11) 2560 (by decide) inb_S256x3420_S256x256_0_2560
      (k0_pay49 (k0_pay48 gs gc (cutW x6 2560 (by decide)) (cutR x7 2560 (by decide)) (cutR x8 2560 (by decide)) (cutW x9 2560 (by decide)) (cutR x10 2560 (by decide)) (cutR x11 2560 (by decide)))) (stored256_at gs gc x6 x7 x8 x9 x10 x11 2560 (by decide)), ?_⟩
    refine List.forall_mem_cons.mpr ⟨piece256 (blockAct gs gc x6 x7 x8 x9 x10 x11) 2304 (by decide) inb_S256x3420_S256x256_0_2304
      (k0_pay46 (k0_pay45 gs gc (cutW x6 2304 (by decide)) (cutR x7 2304 (by decide)) (cutR x8 2304 (by decide)) (cutW x9 2304 (by decide)) (cutR x10 2304 (by decide)) (cutR x11 2304 (by decide)))) (stored256_at gs gc x6 x7 x8 x9 x10 x11 2304 (by decide)), ?_⟩
    refine List.forall_mem_cons.mpr ⟨piece256 (blockAct gs gc x6 x7 x8 x9 x10 x11) 2048 (by decide) inb_S256x3420_S256x256_0_2048
      (k0_pay43 (k0_pay42 gs gc (cutW x6 2048 (by decide)) (cutR x7 2048 (by decide)) (cutR x8 2048 (by decide)) (cutW x9 2048 (by decide)) (cutR x10 2048 (by decide)) (cutR x11 2048 (by decide)))) (stored256_at gs gc x6 x7 x8 x9 x10 x11 2048 (by decide)), ?_⟩
    refine List.forall_mem_cons.mpr ⟨piece256 (blockAct gs gc x6 x7 x8 x9 x10 x11) 1792 (by decide) inb_S256x3420_S256x256_0_1792
      (k0_pay40 (k0_pay39 gs gc (cutW x6 1792 (by decide)) (cutR x7 1792 (by decide)) (cutR x8 1792 (by decide)) (cutW x9 1792 (by decide)) (cutR x10 1792 (by decide)) (cutR x11 1792 (by decide)))) (stored256_at gs gc x6 x7 x8 x9 x10 x11 1792 (by decide)), ?_⟩
    refine List.forall_mem_cons.mpr ⟨piece256 (blockAct gs gc x6 x7 x8 x9 x10 x11) 1536 (by decide) inb_S256x3420_S256x256_0_1536
      (k0_pay37 gs gc (cutW x6 1536 (by decide)) (cutR x7 1536 (by decide)) (cutR x8 1536 (by decide)) (cutW x9 1536 (by decide)) (cutR x10 1536 (by decide)) (cutR x11 1536 (by decide))) (stored256_at gs gc x6 x7 x8 x9 x10 x11 1536 (by decide)), ?_⟩
    refine List.forall_mem_cons.mpr ⟨piece256 (blockAct gs gc x6 x7 x8 x9 x10 x11) 1280 (by decide) inb_S256x3420_S256x256_0_1280
      (k0_pay34 gs gc (cutW x6 1280 (by decide)) (cutR x7 1280 (by decide)) (cutR x8 1280 (by decide)) (cutW x9 1280 (by decide)) (cutR x10 1280 (by decide)) (cutR x11 1280 (by decide))) (stored256_at gs gc x6 x7 x8 x9 x10 x11 1280 (by decide)), ?_⟩
    refine List.forall_mem_cons.mpr ⟨piece256 (blockAct gs gc x6 x7 x8 x9 x10 x11) 1024 (by decide) inb_S256x3420_S256x256_0_1024
      (k0_pay30 gs gc (cutW x6 1024 (by decide)) (cutR x7 1024 (by decide)) (cutR x8 1024 (by decide)) (cutW x9 1024 (by decide)) (cutR x10 1024 (by decide)) (cutR x11 1024 (by decide))) (stored256_at gs gc x6 x7 x8 x9 x10 x11 1024 (by decide)), ?_⟩
    refine List.forall_mem_cons.mpr ⟨piece256 (blockAct gs gc x6 x7 x8 x9 x10 x11) 768 (by decide) inb_S256x3420_S256x256_0_768
      (k0_pay26 gs gc (cutW x6 768 (by decide)) (cutR x7 768 (by decide)) (cutR x8 768 (by decide)) (cutW x9 768 (by decide)) (cutR x10 768 (by decide)) (cutR x11 768 (by decide))) (stored256_at gs gc x6 x7 x8 x9 x10 x11 768 (by decide)), ?_⟩
    refine List.forall_mem_cons.mpr ⟨piece256 (blockAct gs gc x6 x7 x8 x9 x10 x11) 512 (by decide) inb_S256x3420_S256x256_0_512
      (k0_pay22 gs gc (cutW x6 512 (by decide)) (cutR x7 512 (by decide)) (cutR x8 512 (by decide)) (cutW x9 512 (by decide)) (cutR x10 512 (by decide)) (cutR x11 512 (by decide))) (stored256_at gs gc x6 x7 x8 x9 x10 x11 512 (by decide)), ?_⟩
    refine List.forall_mem_cons.mpr ⟨piece256 (blockAct gs gc x6 x7 x8 x9 x10 x11) 256 (by decide) inb_S256x3420_S256x256_0_256
      (k0_pay18 gs gc (cutW x6 256 (by decide)) (cutR x7 256 (by decide)) (cutR x8 256 (by decide)) (cutW x9 256 (by decide)) (cutR x10 256 (by decide)) (cutR x11 256 (by decide))) (stored256_at gs gc x6 x7 x8 x9 x10 x11 256 (by decide)), ?_⟩
    refine List.forall_mem_cons.mpr ⟨piece256 (blockAct gs gc x6 x7 x8 x9 x10 x11) 0 (by decide) inb_S256x3420_S256x256_0_0
      (k0_pay15 gs gc (cutW x6 0 (by decide)) (cutR x7 0 (by decide)) (cutR x8 0 (by decide)) (cutW x9 0 (by decide)) (cutR x10 0 (by decide)) (cutR x11 0 (by decide))) (stored256_at gs gc x6 x7 x8 x9 x10 x11 0 (by decide)), ?_⟩
    exact fun p hp => absurd hp List.not_mem_nil
  · exact View.cover_of_tiledBy _ ![256, 4] (by sl_kernel_rfl) (ix2 r j)

/-- The scale of the activations' rows. -/
theorem pay64_at (r : Fin 256) :
    k0_pay64 (am gs gc x6 x7 x8 x9 x10 x11) (g13 gs gc x6 x7 x8) (u13 gs gc x9 x10 x11) (s13 gs gc x6 x7 x8) (ix2 r 0)
      = scale (blockAct gs gc x6 x7 x8 x9 x10 x11 r) := by
  have e := chain92 (blockAct gs gc x6 x7 x8 x9 x10 x11 r) _ _ r 3328 (by decide) (am_at gs gc x6 x7 x8 x9 x10 x11 r) (fun l => chunk92_at gs gc x6 x7 x8 x9 x10 x11 r l)
  exact (scaleOf_at _ r).trans (congrArg scaleOf (e.trans (upTo_all _ (by decide))))

/-- The activations read back. -/
def readBack : Vec Ideal S256x3420 .f32 := fun y => View.canon (pieces gs gc x6 x7 x8 x9 x10 x11) y

/-- The codes of the activations. -/
theorem pay65_at (r : Fin 256) (j : Fin 3420) :
    k0_pay65 (am gs gc x6 x7 x8 x9 x10 x11) (g13 gs gc x6 x7 x8) (u13 gs gc x9 x10 x11) (s13 gs gc x6 x7 x8) (readBack gs gc x6 x7 x8 x9 x10 x11) (ix2 r j)
      = code (blockAct gs gc x6 x7 x8 x9 x10 x11 r) j := by
  refine (code_3420 (readBack gs gc x6 x7 x8 x9 x10 x11) (k0_pay64 (am gs gc x6 x7 x8 x9 x10 x11) (g13 gs gc x6 x7 x8) (u13 gs gc x9 x10 x11) (s13 gs gc x6 x7 x8)) r j).trans ?_
  rw [pay64_at]
  exact congrArg (codeOf · _) (pieces_at gs gc x6 x7 x8 x9 x10 x11 r j)

/-- The scale of a row of activations. -/
theorem pay66_at (r : Fin 256) :
    k0_pay66 (am gs gc x6 x7 x8 x9 x10 x11) (g13 gs gc x6 x7 x8) (u13 gs gc x9 x10 x11) (s13 gs gc x6 x7 x8) (ix2 0 r)
      = scale (blockAct gs gc x6 x7 x8 x9 x10 x11 r) :=
  (lanes_at _ r).trans (pay64_at gs gc x6 x7 x8 x9 x10 x11 r)

/-- The block's result, from the residual stream `res`. -/
theorem pay1_at (res : FVec Ideal S256x1280 .f32) (x12 : Vec Ideal S3420x1280 .fp8e4m3) (x13 x14 : Vec Ideal S1x1280 .f32)
    (r : Fin 256) (j : Fin 1280) :
    k0_pay1 res (k0_pay67 (am gs gc x6 x7 x8 x9 x10 x11) (g13 gs gc x6 x7 x8) (u13 gs gc x9 x10 x11) (s13 gs gc x6 x7 x8)
        (readBack gs gc x6 x7 x8 x9 x10 x11) x12 x13) x14 (ix2 r j)
      = res (ix2 r j) + linear (code (blockAct gs gc x6 x7 x8 x9 x10 x11 r)) (scale (blockAct gs gc x6 x7 x8 x9 x10 x11 r)) (mat x12) (row x13 0) (row x14 0) j := by
  refine (congrArg (fun q : EReal => res (ix2 r j) + q) (linD_at (k0_pay65 (am gs gc x6 x7 x8 x9 x10 x11) (g13 gs gc x6 x7 x8) (u13 gs gc x9 x10 x11) (s13 gs gc x6 x7 x8) (readBack gs gc x6 x7 x8 x9 x10 x11))
    (k0_pay64 (am gs gc x6 x7 x8 x9 x10 x11) (g13 gs gc x6 x7 x8) (u13 gs gc x9 x10 x11) (s13 gs gc x6 x7 x8)) x12 x13 x14 r j)).trans ?_
  rw [pay64_at, show row (k0_pay65 (am gs gc x6 x7 x8 x9 x10 x11) (g13 gs gc x6 x7 x8) (u13 gs gc x9 x10 x11) (s13 gs gc x6 x7 x8) (readBack gs gc x6 x7 x8 x9 x10 x11)) r = code (blockAct gs gc x6 x7 x8 x9 x10 x11 r) from
    funext fun k => pay65_at gs gc x6 x7 x8 x9 x10 x11 r k]

end Fold

/-! ## The first half: the output projection and the normalisation -/

/-- The scale of a row of the attention result, as a column. -/
theorem pay2_at (x0 : Vec Ideal S256x1280 .f32) (r : Fin 256) : k0_pay2 x0 (ix2 r 0) = scale (row x0 r) :=
  (scaleOf_at _ r).trans (congrArg scaleOf (rowMax_1280 x0 r))

/-- A code of the attention result. -/
theorem pay3_at (x0 : Vec Ideal S256x1280 .f32) (r : Fin 256) (j : Fin 1280) : k0_pay3 x0 (ix2 r j) = code (row x0 r) j :=
  (code_1280 x0 (k0_pay2 x0) r j).trans (by rw [pay2_at]; rfl)

/-- The scale of a row of the attention result, as a row. -/
theorem pay4_at (x0 : Vec Ideal S256x1280 .f32) (r : Fin 256) : k0_pay4 x0 (ix2 0 r) = scale (row x0 r) :=
  (lanes_at _ r).trans (pay2_at x0 r)

section Half

variable (x0 : Vec Ideal S256x1280 .f32) (x1 : Vec Ideal S256x1280 .bf16) (x2 : Vec Ideal S1280x1280 .fp8e4m3)
  (x3 x4 x5 : Vec Ideal S1x1280 .f32)

/-- The residual stream after the output projection. -/
theorem pay8_at (r : Fin 256) (j : Fin 1280) : k0_pay8 (k0_pay5 x1) (k0_pay6 x0 x2 x3) (k0_pay7 x4) (ix2 r j)
    = h1 (row x0 r) (row x1 r) (mat x2) (row x3 0) (row x4 0) j := by
  refine (congrArg (fun q : EReal => x1 (ix2 r j) + q) (lin1280_at (k0_pay3 x0) (k0_pay2 x0) x2 x3 x4 r j)).trans ?_
  rw [pay2_at, show row (k0_pay3 x0) r = code (row x0 r) from funext fun k => pay3_at x0 r k]
  rfl

/-- The normalised rows. -/
theorem pay9_at (r : Fin 256) (j : Fin 1280) : k0_pay9 (k0_pay5 x1) (k0_pay6 x0 x2 x3) (k0_pay7 x4) x5 (ix2 r j)
    = normed (row x0 r) (row x1 r) (mat x2) (row x3 0) (row x4 0) (row x5 0) j := by
  refine (rmsB_at (k0_pay8 (k0_pay5 x1) (k0_pay6 x0 x2 x3) (k0_pay7 x4)) x5 r j).trans ?_
  rw [show row (k0_pay8 (k0_pay5 x1) (k0_pay6 x0 x2 x3) (k0_pay7 x4)) r = h1 (row x0 r) (row x1 r) (mat x2) (row x3 0) (row x4 0) from
    funext fun k => pay8_at x0 x1 x2 x3 x4 r k]
  rfl

/-- A row after the second norm. -/
theorem row_pay9 (r : Fin 256) : row (k0_pay9 (k0_pay5 x1) (k0_pay6 x0 x2 x3) (k0_pay7 x4) x5) r
    = normed (row x0 r) (row x1 r) (mat x2) (row x3 0) (row x4 0) (row x5 0) :=
  funext fun k => pay9_at x0 x1 x2 x3 x4 x5 r k

/-- The scale of a normalised row, as a column. -/
theorem pay10_at (r : Fin 256) : k0_pay10 (k0_pay5 x1) (k0_pay6 x0 x2 x3) (k0_pay7 x4) x5 (ix2 r 0)
    = scale (normed (row x0 r) (row x1 r) (mat x2) (row x3 0) (row x4 0) (row x5 0)) := by
  refine (scaleOf_at _ r).trans ((congrArg scaleOf (rowMax_1280 (k0_pay9 (k0_pay5 x1) (k0_pay6 x0 x2 x3) (k0_pay7 x4) x5) r)).trans ?_)
  rw [row_pay9]
  rfl

/-- A code of a normalised row. -/
theorem pay11_at (r : Fin 256) (j : Fin 1280) : k0_pay11 (k0_pay5 x1) (k0_pay6 x0 x2 x3) (k0_pay7 x4) x5 (ix2 r j)
    = code (normed (row x0 r) (row x1 r) (mat x2) (row x3 0) (row x4 0) (row x5 0)) j := by
  refine (code_1280 (k0_pay9 (k0_pay5 x1) (k0_pay6 x0 x2 x3) (k0_pay7 x4) x5) (k0_pay10 (k0_pay5 x1) (k0_pay6 x0 x2 x3) (k0_pay7 x4) x5) r j).trans ?_
  rw [pay10_at, pay9_at]
  rfl

/-- The scale of a normalised row, as a row. -/
theorem pay12_at (r : Fin 256) : k0_pay12 (k0_pay5 x1) (k0_pay6 x0 x2 x3) (k0_pay7 x4) x5 (ix2 0 r)
    = scale (normed (row x0 r) (row x1 r) (mat x2) (row x3 0) (row x4 0) (row x5 0)) :=
  (lanes_at _ r).trans (pay10_at x0 x1 x2 x3 x4 x5 r)

/-- The block's activations are the row's. -/
theorem blockAct_eq (x6 : Vec Ideal S1280x3420 .fp8e4m3) (x7 x8 : Vec Ideal S1x3420 .f32)
  (x9 : Vec Ideal S1280x3420 .fp8e4m3) (x10 x11 : Vec Ideal S1x3420 .f32) (r : Fin 256) :
    blockAct (k0_pay10 (k0_pay5 x1) (k0_pay6 x0 x2 x3) (k0_pay7 x4) x5) (k0_pay11 (k0_pay5 x1) (k0_pay6 x0 x2 x3) (k0_pay7 x4) x5) x6 x7 x8 x9 x10 x11 r
      = act (row x0 r) (row x1 r) (mat x2) (row x3 0) (row x4 0) (row x5 0) (mat x6) (row x7 0) (row x8 0) (mat x9) (row x10 0) (row x11 0) := by
  unfold blockAct
  rw [pay10_at, show row (k0_pay11 (k0_pay5 x1) (k0_pay6 x0 x2 x3) (k0_pay7 x4) x5) r
    = code (normed (row x0 r) (row x1 r) (mat x2) (row x3 0) (row x4 0) (row x5 0)) from funext fun k => pay11_at x0 x1 x2 x3 x4 x5 r k]
  rfl

end Half

end Cert.MlpRows
-- ==== Proof.Mlp.Blocks.lean ====
module

public import Idealize.ShloMosaic.Lib.Pipeline.ValueKit
public import proofs.«01_k».proof.Proof.Gen.MlpIdeal.Value
public import proofs.«01_k».proof.Proof.Mlp.KernelRows

@[expose] public section

/-! What the kernel's body leaves in each output's block: at row `r` of the block, the row functions of `Cert.Rows` at
that row of the input blocks. -/

set_option maxRecDepth 16384

noncomputable section

namespace Cert.MlpRows

open Idealize.ShloMosaic Idealize.ShloMosaic.TcCoe Idealize.ShloMosaic.Tactic Idealize.SL Idealize.SL.Sem Cert.MlpIdeal Cert.MlpIdeal.Gen Cert.Rows

variable (c : Dev nD) (i : grid0.Coords) (arg1 : Memref sig .tc .vmem S256x1280 .f32) (harg1 : arg1.IsWhole)
  (arg2 : Memref sig .tc .vmem S256x1280 .bf16) (harg2 : arg2.IsWhole)
  (arg3 : Memref sig .tc .vmem S1280x1280 .fp8e4m3) (harg3 : arg3.IsWhole) (arg4 : Memref sig .tc .vmem S1x1280 .f32)
  (harg4 : arg4.IsWhole) (arg5 : Memref sig .tc .vmem S1x1280 .f32) (harg5 : arg5.IsWhole)
  (arg6 : Memref sig .tc .vmem S1x1280 .f32) (harg6 : arg6.IsWhole) (arg7 : Memref sig .tc .vmem S1280x3420 .fp8e4m3)
  (harg7 : arg7.IsWhole) (arg8 : Memref sig .tc .vmem S1x3420 .f32) (harg8 : arg8.IsWhole)
  (arg9 : Memref sig .tc .vmem S1x3420 .f32) (harg9 : arg9.IsWhole) (arg10 : Memref sig .tc .vmem S1280x3420 .fp8e4m3)
  (harg10 : arg10.IsWhole) (arg11 : Memref sig .tc .vmem S1x3420 .f32) (harg11 : arg11.IsWhole)
  (arg12 : Memref sig .tc .vmem S1x3420 .f32) (harg12 : arg12.IsWhole)
  (arg13 : Memref sig .tc .vmem S3420x1280 .fp8e4m3) (harg13 : arg13.IsWhole)
  (arg14 : Memref sig .tc .vmem S1x1280 .f32) (harg14 : arg14.IsWhole) (arg15 : Memref sig .tc .vmem S1x1280 .f32)
  (harg15 : arg15.IsWhole) (arg16 : Memref sig .tc .vmem S256x1280 .fp8e4m3) (harg16 : arg16.IsWhole)
  (arg17 : Memref sig .tc .vmem S1x256 .f32) (harg17 : arg17.IsWhole) (arg18 : Memref sig .tc .vmem S256x1280 .fp8e4m3)
  (harg18 : arg18.IsWhole) (arg19 : Memref sig .tc .vmem S1x256 .f32) (harg19 : arg19.IsWhole)
  (arg20 : Memref sig .tc .vmem S256x3420 .fp8e4m3) (harg20 : arg20.IsWhole) (arg21 : Memref sig .tc .vmem S1x256 .f32)
  (harg21 : arg21.IsWhole) (arg22 : Memref sig .tc .vmem S256x1280 .bf16) (harg22 : arg22.IsWhole)
  (arg23 : Memref sig .tc .vmem S256x3420 .f32) (harg23 : arg23.IsWhole) (x0 : Vec Ideal S256x1280 .f32)
  (x1 : Vec Ideal S256x1280 .bf16) (x2 : Vec Ideal S1280x1280 .fp8e4m3) (x3 : Vec Ideal S1x1280 .f32)
  (x4 : Vec Ideal S1x1280 .f32) (x5 : Vec Ideal S1x1280 .f32) (x6 : Vec Ideal S1280x3420 .fp8e4m3)
  (x7 : Vec Ideal S1x3420 .f32) (x8 : Vec Ideal S1x3420 .f32) (x9 : Vec Ideal S1280x3420 .fp8e4m3)
  (x10 : Vec Ideal S1x3420 .f32) (x11 : Vec Ideal S1x3420 .f32) (x12 : Vec Ideal S3420x1280 .fp8e4m3)
  (x13 : Vec Ideal S1x1280 .f32) (x14 : Vec Ideal S1x1280 .f32)

/-- The activations' buffer read back whole. -/
theorem readCov_whole (L : List (View.Piece (Elt Ideal) S256x3420 .f32)) :
    arg23.view.readCov L (Rect.unit (s := S256x3420) ![0, 0] ![256, 3420] inb_S256x3420_S256x3420_0_0).toLoadRect
      = fun y => View.canon L y := by
  rw [View.readCov_eq_canon']
  funext y
  refine congrArg (View.canon L) (funext fun a => Fin.ext ?_)
  fin_cases a
  · show 0 + 1 * (y 0).val = (y 0).val
    omega
  · show 0 + 1 * (y 1).val = (y 1).val
    omega

/-- The block of output 15 (the codes of the attention result), as the body stores it. -/
theorem out15_eq : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14
    = k0_pay3 x0 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp (disch := decide) only [View.ld_unit_lit]
  exact View.canon_cons_unit_lit _ _ [] (by decide)

/-- Output 15: the codes of the attention's rows. -/
theorem out15_at (r : Fin 256) (j : Fin 1280) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 (ix2 r j)
    = code (row x0 r) j := by
  rw [out15_eq]
  exact pay3_at x0 r j

/-- The block of output 16 (their scales), as the body stores it. -/
theorem out16_eq : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14
    = k0_pay4 x0 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp (disch := decide) only [View.ld_unit_lit]
  exact View.canon_cons_unit_lit _ _ [] (by decide)

/-- Output 16: the scales of the attention's rows. -/
theorem out16_at (r : Fin 256) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 (ix2 0 r)
    = scale (row x0 r) := by
  rw [out16_eq]
  exact pay4_at x0 r

/-- The block of output 17 (the codes of the normalised rows), as the body stores it. -/
theorem out17_eq : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14
    = k0_pay11 (k0_pay5 x1) (k0_pay6 x0 x2 x3) (k0_pay7 x4) x5 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp (disch := decide) only [View.ld_unit_lit]
  exact View.canon_cons_unit_lit _ _ [] (by decide)

/-- Output 17: the codes of the normalised rows. -/
theorem out17_at (r : Fin 256) (j : Fin 1280) : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 (ix2 r j)
    = code (normed (row x0 r) (row x1 r) (mat x2) (row x3 0) (row x4 0) (row x5 0)) j := by
  rw [out17_eq]
  exact pay11_at x0 x1 x2 x3 x4 x5 r j

/-- The block of output 18 (their scales), as the body stores it. -/
theorem out18_eq : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14
    = k0_pay12 (k0_pay5 x1) (k0_pay6 x0 x2 x3) (k0_pay7 x4) x5 := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp (disch := decide) only [View.ld_unit_lit]
  exact View.canon_cons_unit_lit _ _ [] (by decide)

/-- Output 18: the scales of the normalised rows. -/
theorem out18_at (r : Fin 256) : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 (ix2 0 r)
    = scale (normed (row x0 r) (row x1 r) (mat x2) (row x3 0) (row x4 0) (row x5 0)) := by
  rw [out18_eq]
  exact pay12_at x0 x1 x2 x3 x4 x5 r

/-- The block of output 19 (the codes of the activations), as the body stores it. -/
theorem out19_eq : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14
    = k0_pay65 (am (k0_pay10 (k0_pay5 x1) (k0_pay6 x0 x2 x3) (k0_pay7 x4) x5) (k0_pay11 (k0_pay5 x1) (k0_pay6 x0 x2 x3) (k0_pay7 x4) x5) x6 x7 x8 x9 x10 x11)
    (g13 (k0_pay10 (k0_pay5 x1) (k0_pay6 x0 x2 x3) (k0_pay7 x4) x5) (k0_pay11 (k0_pay5 x1) (k0_pay6 x0 x2 x3) (k0_pay7 x4) x5) x6 x7 x8)
    (u13 (k0_pay10 (k0_pay5 x1) (k0_pay6 x0 x2 x3) (k0_pay7 x4) x5) (k0_pay11 (k0_pay5 x1) (k0_pay6 x0 x2 x3) (k0_pay7 x4) x5) x9 x10 x11)
    (s13 (k0_pay10 (k0_pay5 x1) (k0_pay6 x0 x2 x3) (k0_pay7 x4) x5) (k0_pay11 (k0_pay5 x1) (k0_pay6 x0 x2 x3) (k0_pay7 x4) x5) x6 x7 x8)
    (readBack (k0_pay10 (k0_pay5 x1) (k0_pay6 x0 x2 x3) (k0_pay7 x4) x5) (k0_pay11 (k0_pay5 x1) (k0_pay6 x0 x2 x3) (k0_pay7 x4) x5) x6 x7 x8 x9 x10 x11) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp (disch := decide) only [View.ld_unit_lit]
  rw [readCov_whole]
  exact View.canon_cons_unit_lit _ _ [] (by decide)

/-- Output 19: the codes of the gated activations. -/
theorem out19_at (r : Fin 256) (j : Fin 3420) : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 (ix2 r j)
    = code (act (row x0 r) (row x1 r) (mat x2) (row x3 0) (row x4 0) (row x5 0) (mat x6) (row x7 0) (row x8 0)
      (mat x9) (row x10 0) (row x11 0)) j := by
  rw [out19_eq]
  refine (pay65_at (k0_pay10 (k0_pay5 x1) (k0_pay6 x0 x2 x3) (k0_pay7 x4) x5) (k0_pay11 (k0_pay5 x1) (k0_pay6 x0 x2 x3) (k0_pay7 x4) x5) x6 x7 x8 x9 x10 x11 r j).trans ?_
  rw [blockAct_eq]

/-- The block of output 20 (their scales), as the body stores it. -/
theorem out20_eq : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14
    = k0_pay66 (am (k0_pay10 (k0_pay5 x1) (k0_pay6 x0 x2 x3) (k0_pay7 x4) x5) (k0_pay11 (k0_pay5 x1) (k0_pay6 x0 x2 x3) (k0_pay7 x4) x5) x6 x7 x8 x9 x10 x11)
    (g13 (k0_pay10 (k0_pay5 x1) (k0_pay6 x0 x2 x3) (k0_pay7 x4) x5) (k0_pay11 (k0_pay5 x1) (k0_pay6 x0 x2 x3) (k0_pay7 x4) x5) x6 x7 x8)
    (u13 (k0_pay10 (k0_pay5 x1) (k0_pay6 x0 x2 x3) (k0_pay7 x4) x5) (k0_pay11 (k0_pay5 x1) (k0_pay6 x0 x2 x3) (k0_pay7 x4) x5) x9 x10 x11)
    (s13 (k0_pay10 (k0_pay5 x1) (k0_pay6 x0 x2 x3) (k0_pay7 x4) x5) (k0_pay11 (k0_pay5 x1) (k0_pay6 x0 x2 x3) (k0_pay7 x4) x5) x6 x7 x8) := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp (disch := decide) only [View.ld_unit_lit]
  exact View.canon_cons_unit_lit _ _ [] (by decide)

/-- Output 20: the scales of the gated activations. -/
theorem out20_at (r : Fin 256) : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 (ix2 0 r)
    = scale (act (row x0 r) (row x1 r) (mat x2) (row x3 0) (row x4 0) (row x5 0) (mat x6) (row x7 0) (row x8 0)
      (mat x9) (row x10 0) (row x11 0)) := by
  rw [out20_eq]
  refine (pay66_at (k0_pay10 (k0_pay5 x1) (k0_pay6 x0 x2 x3) (k0_pay7 x4) x5) (k0_pay11 (k0_pay5 x1) (k0_pay6 x0 x2 x3) (k0_pay7 x4) x5) x6 x7 x8 x9 x10 x11 r).trans ?_
  rw [blockAct_eq]

/-- The block of output 21 (the block's output), as the body stores it. -/
theorem out21_eq : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14
    = k0_pay1 (k0_pay8 (k0_pay5 x1) (k0_pay6 x0 x2 x3) (k0_pay7 x4))
    (k0_pay67 (am (k0_pay10 (k0_pay5 x1) (k0_pay6 x0 x2 x3) (k0_pay7 x4) x5) (k0_pay11 (k0_pay5 x1) (k0_pay6 x0 x2 x3) (k0_pay7 x4) x5) x6 x7 x8 x9 x10 x11)
    (g13 (k0_pay10 (k0_pay5 x1) (k0_pay6 x0 x2 x3) (k0_pay7 x4) x5) (k0_pay11 (k0_pay5 x1) (k0_pay6 x0 x2 x3) (k0_pay7 x4) x5) x6 x7 x8)
    (u13 (k0_pay10 (k0_pay5 x1) (k0_pay6 x0 x2 x3) (k0_pay7 x4) x5) (k0_pay11 (k0_pay5 x1) (k0_pay6 x0 x2 x3) (k0_pay7 x4) x5) x9 x10 x11)
    (s13 (k0_pay10 (k0_pay5 x1) (k0_pay6 x0 x2 x3) (k0_pay7 x4) x5) (k0_pay11 (k0_pay5 x1) (k0_pay6 x0 x2 x3) (k0_pay7 x4) x5) x6 x7 x8)
    (readBack (k0_pay10 (k0_pay5 x1) (k0_pay6 x0 x2 x3) (k0_pay7 x4) x5) (k0_pay11 (k0_pay5 x1) (k0_pay6 x0 x2 x3) (k0_pay7 x4) x5) x6 x7 x8 x9 x10 x11) x12 x13) x14 := by
  unfold out0_A_21
  rw [View.read_writes_eq_canon _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  simp (disch := decide) only [View.ld_unit_lit]
  rw [readCov_whole]
  exact View.canon_cons_unit_lit _ _ [] (by decide)

/-- Output 21: the block's result. -/
theorem out21_at (r : Fin 256) (j : Fin 1280) : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 (ix2 r j)
    = out (row x0 r) (row x1 r) (mat x2) (row x3 0) (row x4 0) (row x5 0) (mat x6) (row x7 0) (row x8 0)
      (mat x9) (row x10 0) (row x11 0) (mat x12) (row x13 0) (row x14 0) j := by
  rw [out21_eq]
  refine (pay1_at (k0_pay10 (k0_pay5 x1) (k0_pay6 x0 x2 x3) (k0_pay7 x4) x5) (k0_pay11 (k0_pay5 x1) (k0_pay6 x0 x2 x3) (k0_pay7 x4) x5) x6 x7 x8 x9 x10 x11 (k0_pay8 (k0_pay5 x1) (k0_pay6 x0 x2 x3) (k0_pay7 x4)) x12 x13 x14 r j).trans ?_
  rw [blockAct_eq, pay8_at]
  rfl

end Cert.MlpRows
-- ==== Proof.Mlp.RefRows.lean ====
module

public import Idealize.ShloMosaic.Lib.Pointwise
public import Idealize.ShloMosaic.Lib.Pipeline.ValueKit
public import proofs.«01_k».proof.Proof.Gen.MlpRefIdeal.Value
public import proofs.«01_k».proof.Proof.Mlp.Rows

@[expose] public section

/-! The reference's named values, read at one index: each is the row function of `Cert.Rows` at that row. -/

set_option maxRecDepth 16384

noncomputable section

namespace Cert.MlpRefRows

open Idealize.ShloMosaic Cert.MlpRefIdeal Cert.MlpRefIdeal.Gen Cert.Rows

/-! ## The pieces the reference is made of, over any operands -/

/-- The scale from the largest sizes. -/
theorem scaleOf_at (v : FVec Ideal S8192 .f32) (i : Fin 8192) :
    select (cmpf .oeq v (broadcast S8192 (Scalar.ofBits .f32 0x00000000#32 : Ideal .f32)))
      (broadcast S8192 (Scalar.ofBits .f32 0x3F800000#32 : Ideal .f32))
      (divf v (broadcast S8192 (Scalar.ofBits .f32 0x43E00000#32 : Ideal .f32))) (ix1 i) = scaleOf (v (ix1 i)) := by
  pointwise
  rfl

/-- The largest size in the rows of a 1280-wide array. -/
theorem rowMax_1280 (v : FVec Ideal S8192x1280 .f32) (i : Fin 8192) :
    multiReduction .maximumf [1] S8192 (absf v) 0xFF800000#32 reduces_S8192x1280_S8192 (.inl rfl) rfl (ix1 i)
      = rowMax fun k => v (ix2 i k) := by
  pointwise
  rfl

/-- The largest size in the rows of a 3420-wide array. -/
theorem rowMax_3420 (v : FVec Ideal S8192x3420 .f32) (i : Fin 8192) :
    multiReduction .maximumf [1] S8192 (absf v) 0xFF800000#32 reduces_S8192x3420_S8192 (.inl rfl) rfl (ix1 i)
      = rowMax fun k => v (ix2 i k) := by
  pointwise
  rfl

/-- The scale of the rows of a 1280-wide array. -/
theorem scale_1280 (v : FVec Ideal S8192x1280 .f32) (i : Fin 8192) :
    select (cmpf .oeq (multiReduction .maximumf [1] S8192 (absf v) 0xFF800000#32 reduces_S8192x1280_S8192 (.inl rfl) rfl)
        (broadcast S8192 (Scalar.ofBits .f32 0x00000000#32 : Ideal .f32)))
      (broadcast S8192 (Scalar.ofBits .f32 0x3F800000#32 : Ideal .f32))
      (divf (multiReduction .maximumf [1] S8192 (absf v) 0xFF800000#32 reduces_S8192x1280_S8192 (.inl rfl) rfl)
        (broadcast S8192 (Scalar.ofBits .f32 0x43E00000#32 : Ideal .f32))) (ix1 i)
      = scale fun k => v (ix2 i k) :=
  (scaleOf_at _ i).trans (congrArg scaleOf (rowMax_1280 v i))

/-- The scale of the rows of a 3420-wide array. -/
theorem scale_3420 (v : FVec Ideal S8192x3420 .f32) (i : Fin 8192) :
    select (cmpf .oeq (multiReduction .maximumf [1] S8192 (absf v) 0xFF800000#32 reduces_S8192x3420_S8192 (.inl rfl) rfl)
        (broadcast S8192 (Scalar.ofBits .f32 0x00000000#32 : Ideal .f32)))
      (broadcast S8192 (Scalar.ofBits .f32 0x3F800000#32 : Ideal .f32))
      (divf (multiReduction .maximumf [1] S8192 (absf v) 0xFF800000#32 reduces_S8192x3420_S8192 (.inl rfl) rfl)
        (broadcast S8192 (Scalar.ofBits .f32 0x43E00000#32 : Ideal .f32))) (ix1 i)
      = scale fun k => v (ix2 i k) :=
  (scaleOf_at _ i).trans (congrArg scaleOf (rowMax_3420 v i))

/-- The codes of a 1280-wide array under its scales. -/
theorem code_1280 (v : FVec Ideal S8192x1280 .f32) (s : FVec Ideal S8192 .f32) (i : Fin 8192) (j : Fin 1280) :
    (truncf .fp8e4m3 (minimumf (broadcast S8192x1280 (Scalar.ofBits .f32 0x43E00000#32 : Ideal .f32))
      (maximumf (broadcast S8192x1280 (Scalar.ofBits .f32 0xC3E00000#32 : Ideal .f32))
        (divf v (broadcastTo S8192x1280 (shapeCast S8192x1 s shapeCasts_S8192_S8192x1) broadcasts_S8192x1_S8192x1280))))
      bitsLt_fp8e4m3_f32 : FVec Ideal S8192x1280 .fp8e4m3) (ix2 i j) = codeOf (v (ix2 i j)) (s (ix1 i)) := by
  pointwise
  rfl

/-- The codes of a 3420-wide array under its scales. -/
theorem code_3420 (v : FVec Ideal S8192x3420 .f32) (s : FVec Ideal S8192 .f32) (i : Fin 8192) (j : Fin 3420) :
    (truncf .fp8e4m3 (minimumf (broadcast S8192x3420 (Scalar.ofBits .f32 0x43E00000#32 : Ideal .f32))
      (maximumf (broadcast S8192x3420 (Scalar.ofBits .f32 0xC3E00000#32 : Ideal .f32))
        (divf v (broadcastTo S8192x3420 (shapeCast S8192x1 s shapeCasts_S8192_S8192x1) broadcasts_S8192x1_S8192x3420))))
      bitsLt_fp8e4m3_f32 : FVec Ideal S8192x3420 .fp8e4m3) (ix2 i j) = codeOf (v (ix2 i j)) (s (ix1 i)) := by
  pointwise
  rfl

/-- The output projection. -/
theorem linear_o (c : FVec Ideal S8192x1280 .fp8e4m3) (s : FVec Ideal S8192 .f32) (w : FVec Ideal S1280x1280 .fp8e4m3)
    (sw b : FVec Ideal S1280 .f32) (i : Fin 8192) (j : Fin 1280) :
    addf (mulf (mulf (matmul dot_S8192x1280_S1280x1280_S8192x1280_1_0_0_1_n_n none c w
          (constant S8192x1280 .f32 0x00000000#32))
        (broadcastTo S8192x1280 (shapeCast S8192x1 s shapeCasts_S8192_S8192x1) broadcasts_S8192x1_S8192x1280))
      (broadcastTo S8192x1280 (shapeCast S1x1280 sw shapeCasts_S1280_S1x1280) broadcasts_S1x1280_S8192x1280))
      (broadcastTo S8192x1280 (shapeCast S1x1280 b shapeCasts_S1280_S1x1280) broadcasts_S1x1280_S8192x1280) (ix2 i j)
      = linear (fun k => c (ix2 i k)) (s (ix1 i)) (fun k j => w (ix2 k j)) (fun j => sw (ix1 j)) (fun j => b (ix1 j)) j := by
  pointwise
  rfl

/-- The gate's and the up projection. -/
theorem linear_gu (c : FVec Ideal S8192x1280 .fp8e4m3) (s : FVec Ideal S8192 .f32) (w : FVec Ideal S1280x3420 .fp8e4m3)
    (sw b : FVec Ideal S3420 .f32) (i : Fin 8192) (j : Fin 3420) :
    addf (mulf (mulf (matmul dot_S8192x1280_S1280x3420_S8192x3420_1_0_0_1_n_n none c w
          (constant S8192x3420 .f32 0x00000000#32))
        (broadcastTo S8192x3420 (shapeCast S8192x1 s shapeCasts_S8192_S8192x1) broadcasts_S8192x1_S8192x3420))
      (broadcastTo S8192x3420 (shapeCast S1x3420 sw shapeCasts_S3420_S1x3420) broadcasts_S1x3420_S8192x3420))
      (broadcastTo S8192x3420 (shapeCast S1x3420 b shapeCasts_S3420_S1x3420) broadcasts_S1x3420_S8192x3420) (ix2 i j)
      = linear (fun k => c (ix2 i k)) (s (ix1 i)) (fun k j => w (ix2 k j)) (fun j => sw (ix1 j)) (fun j => b (ix1 j)) j := by
  pointwise
  rfl

/-- The down projection. -/
theorem linear_d (c : FVec Ideal S8192x3420 .fp8e4m3) (s : FVec Ideal S8192 .f32) (w : FVec Ideal S3420x1280 .fp8e4m3)
    (sw b : FVec Ideal S1280 .f32) (i : Fin 8192) (j : Fin 1280) :
    addf (mulf (mulf (matmul dot_S8192x3420_S3420x1280_S8192x1280_1_0_0_1_n_n none c w
          (constant S8192x1280 .f32 0x00000000#32))
        (broadcastTo S8192x1280 (shapeCast S8192x1 s shapeCasts_S8192_S8192x1) broadcasts_S8192x1_S8192x1280))
      (broadcastTo S8192x1280 (shapeCast S1x1280 sw shapeCasts_S1280_S1x1280) broadcasts_S1x1280_S8192x1280))
      (broadcastTo S8192x1280 (shapeCast S1x1280 b shapeCasts_S1280_S1x1280) broadcasts_S1x1280_S8192x1280) (ix2 i j)
      = linear (fun k => c (ix2 i k)) (s (ix1 i)) (fun k j => w (ix2 k j)) (fun j => sw (ix1 j)) (fun j => b (ix1 j)) j := by
  pointwise
  rfl

/-- The mean of the squares of each row. -/
theorem meanSq_at (r : FVec Ideal S8192x1280 .f32) (i : Fin 8192) :
    divf (shapeCast S8192x1 (multiReduction .add [1] S8192 (mulf r r) 0x00000000#32 reduces_S8192x1280_S8192
        (.inl rfl) rfl) shapeCasts_S8192_S8192x1) (broadcast S8192x1 (Scalar.ofBits .f32 0x44A00000#32 : Ideal .f32)) (ix2 i 0)
      = Ideal.div (∑ k, r (ix2 i k) * r (ix2 i k)) (Ideal.ofBits .f32 0x44A00000#32) := by
  pointwise

/-- The gated product. -/
theorem gate_at (g u : FVec Ideal S8192x3420 .f32) (i : Fin 8192) (j : Fin 3420) :
    mulf (mulf g (logistic g)) u (ix2 i j) = gate (g (ix2 i j)) (u (ix2 i j)) := by
  pointwise
  rfl

/-! ## The reference's values -/

/-- The scale of a row of the attention result. -/
theorem pay4_at (v : Vec Ideal S8192x1280 .f32) (i : Fin 8192) : k0_pay4 v (ix1 i) = scale fun k => v (ix2 i k) :=
  scale_1280 v i

/-- A code of the attention result. -/
theorem pay5_at (v : Vec Ideal S8192x1280 .f32) (i : Fin 8192) (j : Fin 1280) :
    k0_pay5 v (ix2 i j) = code (fun k => v (ix2 i k)) j :=
  (code_1280 v (k0_pay4 v) i j).trans (by rw [pay4_at]; rfl)

section

variable (h : Vec Ideal S8192x1280 .bf16) (a : Vec Ideal S8192x1280 .f32) (wo : Vec Ideal S1280x1280 .fp8e4m3)
  (so bo g2 : Vec Ideal S1280 .f32)

/-- The residual stream after the output projection. -/
theorem pay6_at (i : Fin 8192) (j : Fin 1280) : k0_pay6 h a wo so bo (ix2 i j)
    = h1 (fun k => a (ix2 i k)) (fun k => h (ix2 i k)) (fun k j => wo (ix2 k j)) (fun j => so (ix1 j)) (fun j => bo (ix1 j)) j := by
  refine (congrArg (h (ix2 i j) + ·) (linear_o (k0_pay5 a) (k0_pay4 a) wo so bo i j)).trans ?_
  rw [pay4_at, show (fun k => k0_pay5 a (ix2 i k)) = code (fun k => a (ix2 i k)) from funext fun k => pay5_at a i k]
  rfl

/-- The mean squares of the residual stream's rows. -/
theorem pay7_at (i : Fin 8192) : k0_pay7 h a wo so bo (ix2 i 0)
    = Ideal.div (∑ k, k0_pay6 h a wo so bo (ix2 i k) * k0_pay6 h a wo so bo (ix2 i k)) (Ideal.ofBits .f32 0x44A00000#32) :=
  meanSq_at (k0_pay6 h a wo so bo) i

end

/-- The normalised residual stream, from the residual stream `r` and its mean squares. -/
theorem pay8_of (r : FVec Ideal S8192x1280 .f32) (g2 : Vec Ideal S1280 .f32) (q : FVec Ideal S8192x1 .f32)
    (i : Fin 8192) (j : Fin 1280) :
    k0_pay8 r g2 q (Scalar.ofBits .f32 0x358637BD#32) (ix2 i j)
      = Ideal.div (r (ix2 i j)) (Ideal.sqrt (q (ix2 i 0) + Ideal.ofBits .f32 0x358637BD#32)) * g2 (ix1 j) := by
  pointwise [k0_pay8]

section

variable (r : FVec Ideal S8192x1280 .f32) (g2 : Vec Ideal S1280 .f32) (q : FVec Ideal S8192x1 .f32) (e : Ideal .f32)

/-- The scale of a normalised row. -/
theorem pay9_at (i : Fin 8192) : k0_pay9 r g2 q e (ix1 i) = scale fun k => k0_pay8 r g2 q e (ix2 i k) :=
  scale_1280 (k0_pay8 r g2 q e) i

/-- A code of a normalised row. -/
theorem pay10_at (i : Fin 8192) (j : Fin 1280) :
    k0_pay10 r g2 q e (ix2 i j) = code (fun k => k0_pay8 r g2 q e (ix2 i k)) j :=
  (code_1280 (k0_pay8 r g2 q e) (k0_pay9 r g2 q e) i j).trans (by rw [pay9_at]; rfl)

variable (wg wu : Vec Ideal S1280x3420 .fp8e4m3) (sg bg su bu : Vec Ideal S3420 .f32)

/-- The gated activations, from the normalised rows. -/
theorem pay13_at (i : Fin 8192) (j : Fin 3420) :
    k0_pay13 (k0_pay11 r g2 q e wg sg bg) su bu (k0_pay12 r g2 q e wu) (ix2 i j)
      = actOf (fun k j => wg (ix2 k j)) (fun j => sg (ix1 j)) (fun j => bg (ix1 j)) (fun k j => wu (ix2 k j))
          (fun j => su (ix1 j)) (fun j => bu (ix1 j)) (code fun k => k0_pay8 r g2 q e (ix2 i k))
          (scale fun k => k0_pay8 r g2 q e (ix2 i k)) j := by
  refine (gate_at (k0_pay11 r g2 q e wg sg bg) _ i j).trans (congrArg₂ gate ?_ ?_)
  · refine (linear_gu (k0_pay10 r g2 q e) (k0_pay9 r g2 q e) wg sg bg i j).trans ?_
    rw [pay9_at, show (fun k => k0_pay10 r g2 q e (ix2 i k)) = code (fun k => k0_pay8 r g2 q e (ix2 i k)) from
      funext fun k => pay10_at r g2 q e i k]
  · refine (linear_gu (k0_pay10 r g2 q e) (k0_pay9 r g2 q e) wu su bu i j).trans ?_
    rw [pay9_at, show (fun k => k0_pay10 r g2 q e (ix2 i k)) = code (fun k => k0_pay8 r g2 q e (ix2 i k)) from
      funext fun k => pay10_at r g2 q e i k]

end

section

variable (g : FVec Ideal S8192x3420 .f32) (su bu : Vec Ideal S3420 .f32) (u : FVec Ideal S8192x3420 .f32)

/-- The scale of a row of activations. -/
theorem pay14_at (i : Fin 8192) : k0_pay14 g su bu u (ix1 i) = scale fun k => k0_pay13 g su bu u (ix2 i k) :=
  scale_3420 (k0_pay13 g su bu u) i

/-- A code of a row of activations. -/
theorem pay15_at (i : Fin 8192) (j : Fin 3420) :
    k0_pay15 g su bu u (ix2 i j) = code (fun k => k0_pay13 g su bu u (ix2 i k)) j :=
  (code_3420 (k0_pay13 g su bu u) (k0_pay14 g su bu u) i j).trans (by rw [pay14_at]; rfl)

/-- The down projection at one entry. -/
theorem pay16_at (wd : Vec Ideal S3420x1280 .fp8e4m3) (sd bd : Vec Ideal S1280 .f32) (i : Fin 8192) (j : Fin 1280) :
    k0_pay16 g su bu u wd sd bd (ix2 i j)
      = linear (code fun k => k0_pay13 g su bu u (ix2 i k)) (scale fun k => k0_pay13 g su bu u (ix2 i k))
          (fun k j => wd (ix2 k j)) (fun j => sd (ix1 j)) (fun j => bd (ix1 j)) j := by
  refine (linear_d (k0_pay15 g su bu u) (k0_pay14 g su bu u) wd sd bd i j).trans ?_
  rw [pay14_at, show (fun k => k0_pay15 g su bu u (ix2 i k)) = code (fun k => k0_pay13 g su bu u (ix2 i k)) from
      funext fun k => pay15_at g su bu u i k]

end

/-- A scale's row: the scales laid along the lanes. -/
theorem lanes_at (s : FVec Ideal S8192 .f32) (i : Fin 8192) :
    shapeCast S1x8192 s shapeCasts_S8192_S1x8192 (ix2 0 i) = s (ix1 i) := by
  pointwise

/-! ## The results, as functions of the arguments -/

section Results

open Cert.MlpRefIdeal.Value

variable (a0 : Vec Ideal S8192x1280 .f32) (a1 : Vec Ideal S8192x1280 .bf16) (a2 : Vec Ideal S1280x1280 .fp8e4m3)
  (a3 a4 a5 : Vec Ideal S1280 .f32) (a6 : Vec Ideal S1280x3420 .fp8e4m3) (a7 a8 : Vec Ideal S3420 .f32)
  (a9 : Vec Ideal S1280x3420 .fp8e4m3) (a10 a11 : Vec Ideal S3420 .f32) (a12 : Vec Ideal S3420x1280 .fp8e4m3)
  (a13 a14 : Vec Ideal S1280 .f32)

/-- The sum after the first residual addition, spelt out. -/
theorem pay18_eq : k0_pay18 a0 a1 a2 a3 a4 a5 a6 a7 a8 a9 a10 a11 a12 a13 a14 = k0_pay6 a1 a0 a2 a3 a4 := by
  unfold k0_pay18
  simp (disch := decide) only [View.ld_unit_lit]

/-- The mean square of the rows, spelt out. -/
theorem pay19_eq : k0_pay19 a0 a1 a2 a3 a4 a5 a6 a7 a8 a9 a10 a11 a12 a13 a14 = k0_pay7 a1 a0 a2 a3 a4 := by
  unfold k0_pay19
  simp (disch := decide) only [View.ld_unit_lit]

/-- The gate projection, spelt out. -/
theorem pay20_eq : k0_pay20 a0 a1 a2 a3 a4 a5 a6 a7 a8 a9 a10 a11 a12 a13 a14 = k0_pay11 (k0_pay6 a1 a0 a2 a3 a4) a5 (k0_pay7 a1 a0 a2 a3 a4)
    (Scalar.ofBits .f32 0x358637BD#32) a6 a7 a8 := by
  unfold k0_pay20
  rw [pay18_eq, pay19_eq]
  simp (disch := decide) only [View.ld_unit_lit]

/-- The up projection before the weights' scale and the bias, spelt out. -/
theorem pay21_eq : k0_pay21 a0 a1 a2 a3 a4 a5 a6 a7 a8 a9 a10 a11 a12 a13 a14 = k0_pay12 (k0_pay6 a1 a0 a2 a3 a4) a5 (k0_pay7 a1 a0 a2 a3 a4)
    (Scalar.ofBits .f32 0x358637BD#32) a9 := by
  unfold k0_pay21
  rw [pay18_eq, pay19_eq]
  simp (disch := decide) only [View.ld_unit_lit]

/-- A row after the first residual addition. -/
theorem h1_row (i : Fin 8192) : (fun k => k0_pay6 a1 a0 a2 a3 a4 (ix2 i k)) = h1 (row a0 i) (row a1 i) (mat a2) (vec a3) (vec a4) :=
  funext fun k => pay6_at a1 a0 a2 a3 a4 i k

/-- A row after the second norm. -/
theorem normed_row (i : Fin 8192) : (fun k => k0_pay8 (k0_pay6 a1 a0 a2 a3 a4) a5 (k0_pay7 a1 a0 a2 a3 a4)
    (Scalar.ofBits .f32 0x358637BD#32) (ix2 i k)) = normed (row a0 i) (row a1 i) (mat a2) (vec a3) (vec a4) (vec a5) := by
  funext k
  rw [pay8_of, pay7_at]
  simp only [pay6_at]
  rfl

/-- A row of activations. -/
theorem act_row (i : Fin 8192) : (fun k => k0_pay13 (k0_pay20 a0 a1 a2 a3 a4 a5 a6 a7 a8 a9 a10 a11 a12 a13 a14) a10 a11 (k0_pay21 a0 a1 a2 a3 a4 a5 a6 a7 a8 a9 a10 a11 a12 a13 a14) (ix2 i k)) = act (row a0 i) (row a1 i) (mat a2) (vec a3) (vec a4) (vec a5) (mat a6) (vec a7) (vec a8) (mat a9) (vec a10) (vec a11) := by
  funext k
  rw [pay20_eq, pay21_eq, pay13_at, normed_row]
  rfl

/-- Result 1 (the codes of the attention result) at one entry. -/
theorem G15_at (i : Fin 8192) (j : Fin 1280) : G15 a0 a1 a2 a3 a4 a5 a6 a7 a8 a9 a10 a11 a12 a13 a14 (ix2 i j) = code (row a0 i) j :=
  pay5_at a0 i j

/-- Result 2 (their scales) at one entry. -/
theorem G16_at (i : Fin 8192) : G16 a0 a1 a2 a3 a4 a5 a6 a7 a8 a9 a10 a11 a12 a13 a14 (ix2 0 i) = scale (row a0 i) :=
  (lanes_at (k0_pay4 a0) i).trans (pay4_at a0 i)

/-- Result 3 (the codes of the normalised rows) at one entry. -/
theorem G17_at (i : Fin 8192) (j : Fin 1280) : G17 a0 a1 a2 a3 a4 a5 a6 a7 a8 a9 a10 a11 a12 a13 a14 (ix2 i j) = code (normed (row a0 i) (row a1 i) (mat a2) (vec a3) (vec a4) (vec a5)) j := by
  refine (pay10_at _ _ _ _ i j).trans ?_
  rw [pay18_eq, pay19_eq, normed_row]

/-- Result 4 (their scales) at one entry. -/
theorem G18_at (i : Fin 8192) : G18 a0 a1 a2 a3 a4 a5 a6 a7 a8 a9 a10 a11 a12 a13 a14 (ix2 0 i) = scale (normed (row a0 i) (row a1 i) (mat a2) (vec a3) (vec a4) (vec a5)) := by
  refine (lanes_at (k0_pay9 (k0_pay18 a0 a1 a2 a3 a4 a5 a6 a7 a8 a9 a10 a11 a12 a13 a14) a5 (k0_pay19 a0 a1 a2 a3 a4 a5 a6 a7 a8 a9 a10 a11 a12 a13 a14) (Scalar.ofBits .f32 0x358637BD#32)) i).trans ((pay9_at _ _ _ _ i).trans ?_)
  rw [pay18_eq, pay19_eq, normed_row]

/-- Result 5 (the codes of the activations) at one entry. -/
theorem G19_at (i : Fin 8192) (j : Fin 3420) : G19 a0 a1 a2 a3 a4 a5 a6 a7 a8 a9 a10 a11 a12 a13 a14 (ix2 i j) = code (act (row a0 i) (row a1 i) (mat a2) (vec a3) (vec a4) (vec a5) (mat a6) (vec a7) (vec a8) (mat a9) (vec a10) (vec a11)) j := by
  refine (pay15_at _ _ _ _ i j).trans ?_
  rw [act_row]

/-- Result 6 (their scales) at one entry. -/
theorem G20_at (i : Fin 8192) : G20 a0 a1 a2 a3 a4 a5 a6 a7 a8 a9 a10 a11 a12 a13 a14 (ix2 0 i) = scale (act (row a0 i) (row a1 i) (mat a2) (vec a3) (vec a4) (vec a5) (mat a6) (vec a7) (vec a8) (mat a9) (vec a10) (vec a11)) := by
  refine (lanes_at (k0_pay14 (k0_pay20 a0 a1 a2 a3 a4 a5 a6 a7 a8 a9 a10 a11 a12 a13 a14) a10 a11 (k0_pay21 a0 a1 a2 a3 a4 a5 a6 a7 a8 a9 a10 a11 a12 a13 a14)) i).trans ((pay14_at _ _ _ _ i).trans ?_)
  rw [act_row]

/-- Result 7 (the block's output) at one entry. -/
theorem G21_at (i : Fin 8192) (j : Fin 1280) : G21 a0 a1 a2 a3 a4 a5 a6 a7 a8 a9 a10 a11 a12 a13 a14 (ix2 i j) = out (row a0 i) (row a1 i) (mat a2) (vec a3) (vec a4) (vec a5) (mat a6) (vec a7) (vec a8) (mat a9) (vec a10) (vec a11) (mat a12) (vec a13) (vec a14) j := by
  have e : k0_pay18 a0 a1 a2 a3 a4 a5 a6 a7 a8 a9 a10 a11 a12 a13 a14 (ix2 i j) = h1 (row a0 i) (row a1 i) (mat a2) (vec a3) (vec a4) j := by
    rw [pay18_eq, pay6_at]
  refine (congrArg₂ (fun x y : EReal => x + y) e (pay16_at _ _ _ _ _ _ _ i j)).trans ?_
  rw [act_row]
  rfl

end Results

end Cert.MlpRefRows
-- ==== Proof.Mlp.Value.lean ====
module

public import Idealize.ShloMosaic.Lib.Pipeline.ValueKit
public import Idealize.ShloMosaic.Lib.Claim
public import proofs.«01_k».proof.Defs
public import proofs.«01_k».proof.Proof.Gen.Mlp
public import proofs.«01_k».proof.Proof.Mlp.Blocks
public import proofs.«01_k».proof.Proof.Mlp.RefRows

@[expose] public section

/-! The kernel's result arrays after its run are the reference's, over the same arguments: row `r` of block `t` is row
`256 t + r` of the array, and the weights' blocks are the whole weights. -/

set_option maxRecDepth 16384

noncomputable section

namespace Cert.MlpRows

open Idealize.ShloMosaic Idealize.ShloMosaic.TcCoe Idealize.SL.Sem Cert.MlpIdeal Cert.MlpIdeal.Gen Cert.Rows
open Cert.MlpRefIdeal.Value (G15 G16 G17 G18 G19 G20 G21)
open Cert.MlpRefRows (G15_at G16_at G17_at G18_at G19_at G20_at G21_at)

variable (m : (ℓ : Loc nD τ sig) → Buf (Elt Ideal) ℓ) (c : Dev nD)

/-- The windows' block indices at every point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![t.val, 0]
    ∧ win0_16.index t = ![0, t.val]
    ∧ win0_17.index t = ![t.val, 0]
    ∧ win0_18.index t = ![0, t.val]
    ∧ win0_19.index t = ![t.val, 0]
    ∧ win0_20.index t = ![0, t.val]
    ∧ win0_21.index t = ![t.val, 0] ∧ t.val < 32 :=
  (by decide +kernel : ∀ t : Fin grid0.N, _)

/-- A row of the block of argument 0 is that row of the array. -/
theorem blk0_at (t : Fin cfg0.N) (r : Fin 256) (i : Fin 8192) (e : i.val = t.val * 256 + r.val) :
    row (iblk m c 0 t) r = row (m ((c : Thread nD τ).loc main_arg0)) i := by
  funext k
  show iblk m c 0 t (ix2 r k) = m ((c : Thread nD τ).loc main_arg0) (ix2 i k)
  blk_ext [iblk, V, idx t]

/-- A row of the block of argument 1 is that row of the array. -/
theorem blk1_at (t : Fin cfg0.N) (r : Fin 256) (i : Fin 8192) (e : i.val = t.val * 256 + r.val) :
    row (iblk m c 1 t) r = row (m ((c : Thread nD τ).loc main_arg1)) i := by
  funext k
  show iblk m c 1 t (ix2 r k) = m ((c : Thread nD τ).loc main_arg1) (ix2 i k)
  blk_ext [iblk, V, idx t]

/-- The block of argument 2 is the whole array. -/
theorem blk2_at (t : Fin cfg0.N) : mat (iblk m c 2 t) = mat (m ((c : Thread nD τ).loc main_arg2)) := by
  funext k j
  show iblk m c 2 t (ix2 k j) = m ((c : Thread nD τ).loc main_arg2) (ix2 k j)
  blk_ext [iblk, V, idx t]

/-- The block of argument 6 is the whole array. -/
theorem blk6_at (t : Fin cfg0.N) : mat (iblk m c 6 t) = mat (m ((c : Thread nD τ).loc main_arg6)) := by
  funext k j
  show iblk m c 6 t (ix2 k j) = m ((c : Thread nD τ).loc main_arg6) (ix2 k j)
  blk_ext [iblk, V, idx t]

/-- The block of argument 9 is the whole array. -/
theorem blk9_at (t : Fin cfg0.N) : mat (iblk m c 9 t) = mat (m ((c : Thread nD τ).loc main_arg9)) := by
  funext k j
  show iblk m c 9 t (ix2 k j) = m ((c : Thread nD τ).loc main_arg9) (ix2 k j)
  blk_ext [iblk, V, idx t]

/-- The block of argument 12 is the whole array. -/
theorem blk12_at (t : Fin cfg0.N) : mat (iblk m c 12 t) = mat (m ((c : Thread nD τ).loc main_arg12)) := by
  funext k j
  show iblk m c 12 t (ix2 k j) = m ((c : Thread nD τ).loc main_arg12) (ix2 k j)
  blk_ext [iblk, V, idx t]

/-- The block of argument 3 is the whole vector. -/
theorem blk3_at (t : Fin cfg0.N) : row (iblk m c 3 t) 0 = vec (m ((c : Thread nD τ).loc main_arg3)) := by
  funext j
  show iblk m c 3 t (ix2 0 j) = m ((c : Thread nD τ).loc main_arg3) (ix1 j)
  blk_simp [iblk, idx t]
  entry_read
  pointwise
  blk_ext [idx t]

/-- The block of argument 4 is the whole vector. -/
theorem blk4_at (t : Fin cfg0.N) : row (iblk m c 4 t) 0 = vec (m ((c : Thread nD τ).loc main_arg4)) := by
  funext j
  show iblk m c 4 t (ix2 0 j) = m ((c : Thread nD τ).loc main_arg4) (ix1 j)
  blk_simp [iblk, idx t]
  entry_read
  pointwise
  blk_ext [idx t]

/-- The block of argument 5 is the whole vector. -/
theorem blk5_at (t : Fin cfg0.N) : row (iblk m c 5 t) 0 = vec (m ((c : Thread nD τ).loc main_arg5)) := by
  funext j
  show iblk m c 5 t (ix2 0 j) = m ((c : Thread nD τ).loc main_arg5) (ix1 j)
  blk_simp [iblk, idx t]
  entry_read
  pointwise
  blk_ext [idx t]

/-- The block of argument 7 is the whole vector. -/
theorem blk7_at (t : Fin cfg0.N) : row (iblk m c 7 t) 0 = vec (m ((c : Thread nD τ).loc main_arg7)) := by
  funext j
  show iblk m c 7 t (ix2 0 j) = m ((c : Thread nD τ).loc main_arg7) (ix1 j)
  blk_simp [iblk, idx t]
  entry_read
  pointwise
  blk_ext [idx t]

/-- The block of argument 8 is the whole vector. -/
theorem blk8_at (t : Fin cfg0.N) : row (iblk m c 8 t) 0 = vec (m ((c : Thread nD τ).loc main_arg8)) := by
  funext j
  show iblk m c 8 t (ix2 0 j) = m ((c : Thread nD τ).loc main_arg8) (ix1 j)
  blk_simp [iblk, idx t]
  entry_read
  pointwise
  blk_ext [idx t]

/-- The block of argument 10 is the whole vector. -/
theorem blk10_at (t : Fin cfg0.N) : row (iblk m c 10 t) 0 = vec (m ((c : Thread nD τ).loc main_arg10)) := by
  funext j
  show iblk m c 10 t (ix2 0 j) = m ((c : Thread nD τ).loc main_arg10) (ix1 j)
  blk_simp [iblk, idx t]
  entry_read
  pointwise
  blk_ext [idx t]

/-- The block of argument 11 is the whole vector. -/
theorem blk11_at (t : Fin cfg0.N) : row (iblk m c 11 t) 0 = vec (m ((c : Thread nD τ).loc main_arg11)) := by
  funext j
  show iblk m c 11 t (ix2 0 j) = m ((c : Thread nD τ).loc main_arg11) (ix1 j)
  blk_simp [iblk, idx t]
  entry_read
  pointwise
  blk_ext [idx t]

/-- The block of argument 13 is the whole vector. -/
theorem blk13_at (t : Fin cfg0.N) : row (iblk m c 13 t) 0 = vec (m ((c : Thread nD τ).loc main_arg13)) := by
  funext j
  show iblk m c 13 t (ix2 0 j) = m ((c : Thread nD τ).loc main_arg13) (ix1 j)
  blk_simp [iblk, idx t]
  entry_read
  pointwise
  blk_ext [idx t]

/-- The block of argument 14 is the whole vector. -/
theorem blk14_at (t : Fin cfg0.N) : row (iblk m c 14 t) 0 = vec (m ((c : Thread nD τ).loc main_arg14)) := by
  funext j
  show iblk m c 14 t (ix2 0 j) = m ((c : Thread nD τ).loc main_arg14) (ix1 j)
  blk_simp [iblk, idx t]
  entry_read
  pointwise
  blk_ext [idx t]

/-- Output 15 (the codes of the attention result) after the run is the array of the reference. -/
theorem final15 : (dats m 0 c).arrAt 15 (cfgs 0).N
    = G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 15 _ (by decide +kernel) fun t _ y => ?_
  blk_simp
  rw [after0_15]
  simp only [outsAt0]
  obtain ⟨r, j, rfl⟩ := exists_ix2 (n := 256) (m := 1280) y
  have ht := (idx t).2.2.2.2.2.2.2.2.2.2.2.2.2.2.2.2.2.2.2.2.2.2
  have hlt : t.val * 256 + r.val < 8192 := by have := r.isLt; omega
  refine (out15_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r j).trans ?_
  rw [blk0_at m c t r ⟨t.val * 256 + r.val, hlt⟩ rfl]
  refine (G15_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) ⟨t.val * 256 + r.val, hlt⟩ j).symm.trans (congrArg _ ?_)
  blk_ext [idx t]

/-- Output 16 (their scales) after the run is the array of the reference. -/
theorem final16 : (dats m 0 c).arrAt 16 (cfgs 0).N
    = G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 16 _ (by decide +kernel) fun t _ y => ?_
  blk_simp
  rw [after0_16]
  simp only [outsAt0]
  obtain ⟨z, r, rfl⟩ := exists_ix2 (n := 1) (m := 256) y
  obtain rfl : z = 0 := Subsingleton.elim _ _
  have ht := (idx t).2.2.2.2.2.2.2.2.2.2.2.2.2.2.2.2.2.2.2.2.2.2
  have hlt : t.val * 256 + r.val < 8192 := by have := r.isLt; omega
  refine (out16_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r).trans ?_
  rw [blk0_at m c t r ⟨t.val * 256 + r.val, hlt⟩ rfl]
  refine (G16_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) ⟨t.val * 256 + r.val, hlt⟩).symm.trans (congrArg _ ?_)
  blk_ext [idx t]

/-- Output 17 (the codes of the normalised rows) after the run is the array of the reference. -/
theorem final17 : (dats m 0 c).arrAt 17 (cfgs 0).N
    = G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 17 _ (by decide +kernel) fun t _ y => ?_
  blk_simp
  rw [after0_17]
  simp only [outsAt0]
  obtain ⟨r, j, rfl⟩ := exists_ix2 (n := 256) (m := 1280) y
  have ht := (idx t).2.2.2.2.2.2.2.2.2.2.2.2.2.2.2.2.2.2.2.2.2.2
  have hlt : t.val * 256 + r.val < 8192 := by have := r.isLt; omega
  refine (out17_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r j).trans ?_
  rw [blk0_at m c t r ⟨t.val * 256 + r.val, hlt⟩ rfl, blk1_at m c t r ⟨t.val * 256 + r.val, hlt⟩ rfl, blk2_at m c t, blk3_at m c t, blk4_at m c t, blk5_at m c t]
  refine (G17_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) ⟨t.val * 256 + r.val, hlt⟩ j).symm.trans (congrArg _ ?_)
  blk_ext [idx t]

/-- Output 18 (their scales) after the run is the array of the reference. -/
theorem final18 : (dats m 0 c).arrAt 18 (cfgs 0).N
    = G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 18 _ (by decide +kernel) fun t _ y => ?_
  blk_simp
  rw [after0_18]
  simp only [outsAt0]
  obtain ⟨z, r, rfl⟩ := exists_ix2 (n := 1) (m := 256) y
  obtain rfl : z = 0 := Subsingleton.elim _ _
  have ht := (idx t).2.2.2.2.2.2.2.2.2.2.2.2.2.2.2.2.2.2.2.2.2.2
  have hlt : t.val * 256 + r.val < 8192 := by have := r.isLt; omega
  refine (out18_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r).trans ?_
  rw [blk0_at m c t r ⟨t.val * 256 + r.val, hlt⟩ rfl, blk1_at m c t r ⟨t.val * 256 + r.val, hlt⟩ rfl, blk2_at m c t, blk3_at m c t, blk4_at m c t, blk5_at m c t]
  refine (G18_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) ⟨t.val * 256 + r.val, hlt⟩).symm.trans (congrArg _ ?_)
  blk_ext [idx t]

/-- Output 19 (the codes of the activations) after the run is the array of the reference. -/
theorem final19 : (dats m 0 c).arrAt 19 (cfgs 0).N
    = G19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 19 _ (by decide +kernel) fun t _ y => ?_
  blk_simp
  rw [after0_19]
  simp only [outsAt0]
  obtain ⟨r, j, rfl⟩ := exists_ix2 (n := 256) (m := 3420) y
  have ht := (idx t).2.2.2.2.2.2.2.2.2.2.2.2.2.2.2.2.2.2.2.2.2.2
  have hlt : t.val * 256 + r.val < 8192 := by have := r.isLt; omega
  refine (out19_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r j).trans ?_
  rw [blk0_at m c t r ⟨t.val * 256 + r.val, hlt⟩ rfl, blk1_at m c t r ⟨t.val * 256 + r.val, hlt⟩ rfl, blk2_at m c t, blk3_at m c t, blk4_at m c t, blk5_at m c t, blk6_at m c t, blk7_at m c t, blk8_at m c t, blk9_at m c t, blk10_at m c t, blk11_at m c t]
  refine (G19_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) ⟨t.val * 256 + r.val, hlt⟩ j).symm.trans (congrArg _ ?_)
  blk_ext [idx t]

/-- Output 20 (their scales) after the run is the array of the reference. -/
theorem final20 : (dats m 0 c).arrAt 20 (cfgs 0).N
    = G20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 20 _ (by decide +kernel) fun t _ y => ?_
  blk_simp
  rw [after0_20]
  simp only [outsAt0]
  obtain ⟨z, r, rfl⟩ := exists_ix2 (n := 1) (m := 256) y
  obtain rfl : z = 0 := Subsingleton.elim _ _
  have ht := (idx t).2.2.2.2.2.2.2.2.2.2.2.2.2.2.2.2.2.2.2.2.2.2
  have hlt : t.val * 256 + r.val < 8192 := by have := r.isLt; omega
  refine (out20_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r).trans ?_
  rw [blk0_at m c t r ⟨t.val * 256 + r.val, hlt⟩ rfl, blk1_at m c t r ⟨t.val * 256 + r.val, hlt⟩ rfl, blk2_at m c t, blk3_at m c t, blk4_at m c t, blk5_at m c t, blk6_at m c t, blk7_at m c t, blk8_at m c t, blk9_at m c t, blk10_at m c t, blk11_at m c t]
  refine (G20_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) ⟨t.val * 256 + r.val, hlt⟩).symm.trans (congrArg _ ?_)
  blk_ext [idx t]

/-- Output 21 (the block's output) after the run is the array of the reference. -/
theorem final21 : (dats m 0 c).arrAt 21 (cfgs 0).N
    = G21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 21 _ (by decide +kernel) fun t _ y => ?_
  blk_simp
  rw [after0_21]
  simp only [outsAt0]
  obtain ⟨r, j, rfl⟩ := exists_ix2 (n := 256) (m := 1280) y
  have ht := (idx t).2.2.2.2.2.2.2.2.2.2.2.2.2.2.2.2.2.2.2.2.2.2
  have hlt : t.val * 256 + r.val < 8192 := by have := r.isLt; omega
  refine (out21_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ r j).trans ?_
  rw [blk0_at m c t r ⟨t.val * 256 + r.val, hlt⟩ rfl, blk1_at m c t r ⟨t.val * 256 + r.val, hlt⟩ rfl, blk2_at m c t, blk3_at m c t, blk4_at m c t, blk5_at m c t, blk6_at m c t, blk7_at m c t, blk8_at m c t, blk9_at m c t, blk10_at m c t, blk11_at m c t, blk12_at m c t, blk13_at m c t, blk14_at m c t]
  refine (G21_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) ⟨t.val * 256 + r.val, hlt⟩ j).symm.trans (congrArg _ ?_)
  blk_ext [idx t]

/-- Equal arguments give equal results of the reference (result 0). -/
theorem G15_congr {a0 b0 : Vec Ideal S8192x1280 .f32} {a1 b1 : Vec Ideal S8192x1280 .bf16} {a2 b2 : Vec Ideal S1280x1280 .fp8e4m3} {a3 b3 : Vec Ideal S1280 .f32} {a4 b4 : Vec Ideal S1280 .f32} {a5 b5 : Vec Ideal S1280 .f32} {a6 b6 : Vec Ideal S1280x3420 .fp8e4m3} {a7 b7 : Vec Ideal S3420 .f32} {a8 b8 : Vec Ideal S3420 .f32} {a9 b9 : Vec Ideal S1280x3420 .fp8e4m3} {a10 b10 : Vec Ideal S3420 .f32} {a11 b11 : Vec Ideal S3420 .f32} {a12 b12 : Vec Ideal S3420x1280 .fp8e4m3} {a13 b13 : Vec Ideal S1280 .f32} {a14 b14 : Vec Ideal S1280 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) :
    G15 (F := Ideal) a0 a1 a2 a3 a4 a5 a6 a7 a8 a9 a10 a11 a12 a13 a14 = G15 b0 b1 b2 b3 b4 b5 b6 b7 b8 b9 b10 b11 b12 b13 b14 := by
  subst h0; subst h1; subst h2; subst h3; subst h4; subst h5; subst h6; subst h7; subst h8; subst h9; subst h10; subst h11; subst h12; subst h13; subst h14; rfl

/-- Equal arguments give equal results of the reference (result 1). -/
theorem G16_congr {a0 b0 : Vec Ideal S8192x1280 .f32} {a1 b1 : Vec Ideal S8192x1280 .bf16} {a2 b2 : Vec Ideal S1280x1280 .fp8e4m3} {a3 b3 : Vec Ideal S1280 .f32} {a4 b4 : Vec Ideal S1280 .f32} {a5 b5 : Vec Ideal S1280 .f32} {a6 b6 : Vec Ideal S1280x3420 .fp8e4m3} {a7 b7 : Vec Ideal S3420 .f32} {a8 b8 : Vec Ideal S3420 .f32} {a9 b9 : Vec Ideal S1280x3420 .fp8e4m3} {a10 b10 : Vec Ideal S3420 .f32} {a11 b11 : Vec Ideal S3420 .f32} {a12 b12 : Vec Ideal S3420x1280 .fp8e4m3} {a13 b13 : Vec Ideal S1280 .f32} {a14 b14 : Vec Ideal S1280 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) :
    G16 (F := Ideal) a0 a1 a2 a3 a4 a5 a6 a7 a8 a9 a10 a11 a12 a13 a14 = G16 b0 b1 b2 b3 b4 b5 b6 b7 b8 b9 b10 b11 b12 b13 b14 := by
  subst h0; subst h1; subst h2; subst h3; subst h4; subst h5; subst h6; subst h7; subst h8; subst h9; subst h10; subst h11; subst h12; subst h13; subst h14; rfl

/-- Equal arguments give equal results of the reference (result 2). -/
theorem G17_congr {a0 b0 : Vec Ideal S8192x1280 .f32} {a1 b1 : Vec Ideal S8192x1280 .bf16} {a2 b2 : Vec Ideal S1280x1280 .fp8e4m3} {a3 b3 : Vec Ideal S1280 .f32} {a4 b4 : Vec Ideal S1280 .f32} {a5 b5 : Vec Ideal S1280 .f32} {a6 b6 : Vec Ideal S1280x3420 .fp8e4m3} {a7 b7 : Vec Ideal S3420 .f32} {a8 b8 : Vec Ideal S3420 .f32} {a9 b9 : Vec Ideal S1280x3420 .fp8e4m3} {a10 b10 : Vec Ideal S3420 .f32} {a11 b11 : Vec Ideal S3420 .f32} {a12 b12 : Vec Ideal S3420x1280 .fp8e4m3} {a13 b13 : Vec Ideal S1280 .f32} {a14 b14 : Vec Ideal S1280 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) :
    G17 (F := Ideal) a0 a1 a2 a3 a4 a5 a6 a7 a8 a9 a10 a11 a12 a13 a14 = G17 b0 b1 b2 b3 b4 b5 b6 b7 b8 b9 b10 b11 b12 b13 b14 := by
  subst h0; subst h1; subst h2; subst h3; subst h4; subst h5; subst h6; subst h7; subst h8; subst h9; subst h10; subst h11; subst h12; subst h13; subst h14; rfl

/-- Equal arguments give equal results of the reference (result 3). -/
theorem G18_congr {a0 b0 : Vec Ideal S8192x1280 .f32} {a1 b1 : Vec Ideal S8192x1280 .bf16} {a2 b2 : Vec Ideal S1280x1280 .fp8e4m3} {a3 b3 : Vec Ideal S1280 .f32} {a4 b4 : Vec Ideal S1280 .f32} {a5 b5 : Vec Ideal S1280 .f32} {a6 b6 : Vec Ideal S1280x3420 .fp8e4m3} {a7 b7 : Vec Ideal S3420 .f32} {a8 b8 : Vec Ideal S3420 .f32} {a9 b9 : Vec Ideal S1280x3420 .fp8e4m3} {a10 b10 : Vec Ideal S3420 .f32} {a11 b11 : Vec Ideal S3420 .f32} {a12 b12 : Vec Ideal S3420x1280 .fp8e4m3} {a13 b13 : Vec Ideal S1280 .f32} {a14 b14 : Vec Ideal S1280 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) :
    G18 (F := Ideal) a0 a1 a2 a3 a4 a5 a6 a7 a8 a9 a10 a11 a12 a13 a14 = G18 b0 b1 b2 b3 b4 b5 b6 b7 b8 b9 b10 b11 b12 b13 b14 := by
  subst h0; subst h1; subst h2; subst h3; subst h4; subst h5; subst h6; subst h7; subst h8; subst h9; subst h10; subst h11; subst h12; subst h13; subst h14; rfl

/-- Equal arguments give equal results of the reference (result 4). -/
theorem G19_congr {a0 b0 : Vec Ideal S8192x1280 .f32} {a1 b1 : Vec Ideal S8192x1280 .bf16} {a2 b2 : Vec Ideal S1280x1280 .fp8e4m3} {a3 b3 : Vec Ideal S1280 .f32} {a4 b4 : Vec Ideal S1280 .f32} {a5 b5 : Vec Ideal S1280 .f32} {a6 b6 : Vec Ideal S1280x3420 .fp8e4m3} {a7 b7 : Vec Ideal S3420 .f32} {a8 b8 : Vec Ideal S3420 .f32} {a9 b9 : Vec Ideal S1280x3420 .fp8e4m3} {a10 b10 : Vec Ideal S3420 .f32} {a11 b11 : Vec Ideal S3420 .f32} {a12 b12 : Vec Ideal S3420x1280 .fp8e4m3} {a13 b13 : Vec Ideal S1280 .f32} {a14 b14 : Vec Ideal S1280 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) :
    G19 (F := Ideal) a0 a1 a2 a3 a4 a5 a6 a7 a8 a9 a10 a11 a12 a13 a14 = G19 b0 b1 b2 b3 b4 b5 b6 b7 b8 b9 b10 b11 b12 b13 b14 := by
  subst h0; subst h1; subst h2; subst h3; subst h4; subst h5; subst h6; subst h7; subst h8; subst h9; subst h10; subst h11; subst h12; subst h13; subst h14; rfl

/-- Equal arguments give equal results of the reference (result 5). -/
theorem G20_congr {a0 b0 : Vec Ideal S8192x1280 .f32} {a1 b1 : Vec Ideal S8192x1280 .bf16} {a2 b2 : Vec Ideal S1280x1280 .fp8e4m3} {a3 b3 : Vec Ideal S1280 .f32} {a4 b4 : Vec Ideal S1280 .f32} {a5 b5 : Vec Ideal S1280 .f32} {a6 b6 : Vec Ideal S1280x3420 .fp8e4m3} {a7 b7 : Vec Ideal S3420 .f32} {a8 b8 : Vec Ideal S3420 .f32} {a9 b9 : Vec Ideal S1280x3420 .fp8e4m3} {a10 b10 : Vec Ideal S3420 .f32} {a11 b11 : Vec Ideal S3420 .f32} {a12 b12 : Vec Ideal S3420x1280 .fp8e4m3} {a13 b13 : Vec Ideal S1280 .f32} {a14 b14 : Vec Ideal S1280 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) :
    G20 (F := Ideal) a0 a1 a2 a3 a4 a5 a6 a7 a8 a9 a10 a11 a12 a13 a14 = G20 b0 b1 b2 b3 b4 b5 b6 b7 b8 b9 b10 b11 b12 b13 b14 := by
  subst h0; subst h1; subst h2; subst h3; subst h4; subst h5; subst h6; subst h7; subst h8; subst h9; subst h10; subst h11; subst h12; subst h13; subst h14; rfl

/-- Equal arguments give equal results of the reference (result 6). -/
theorem G21_congr {a0 b0 : Vec Ideal S8192x1280 .f32} {a1 b1 : Vec Ideal S8192x1280 .bf16} {a2 b2 : Vec Ideal S1280x1280 .fp8e4m3} {a3 b3 : Vec Ideal S1280 .f32} {a4 b4 : Vec Ideal S1280 .f32} {a5 b5 : Vec Ideal S1280 .f32} {a6 b6 : Vec Ideal S1280x3420 .fp8e4m3} {a7 b7 : Vec Ideal S3420 .f32} {a8 b8 : Vec Ideal S3420 .f32} {a9 b9 : Vec Ideal S1280x3420 .fp8e4m3} {a10 b10 : Vec Ideal S3420 .f32} {a11 b11 : Vec Ideal S3420 .f32} {a12 b12 : Vec Ideal S3420x1280 .fp8e4m3} {a13 b13 : Vec Ideal S1280 .f32} {a14 b14 : Vec Ideal S1280 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) :
    G21 (F := Ideal) a0 a1 a2 a3 a4 a5 a6 a7 a8 a9 a10 a11 a12 a13 a14 = G21 b0 b1 b2 b3 b4 b5 b6 b7 b8 b9 b10 b11 b12 b13 b14 := by
  subst h0; subst h1; subst h2; subst h3; subst h4; subst h5; subst h6; subst h7; subst h8; subst h9; subst h10; subst h11; subst h12; subst h13; subst h14; rfl

set_option maxHeartbeats 4000000 in
/-- THE CLAIM'S EQUALITY: from memories that agree on the arguments both programs run, end with the same results and leave
    their arguments as they were. -/
theorem algebraic : Cert.algebraic_MlpIdeal_MlpRefIdeal (hMlpIdeal := Cert.MlpIdeal.Gen.facts)
    (hMlpRefIdeal := Cert.MlpRefIdeal.Gen.facts) := by
  intro m g m' g' _ hag
  refine ⟨fun c => G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)), fun c => G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)), fun c => G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)), fun c => G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)), fun c => G19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)), fun c => G20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)), fun c => G21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)), ?_, ?_⟩
  · refine (θ_run _ _ _).mono (fun r h c => ?_) (Cert.MlpIdeal.Value.run_blocks m g)
    obtain ⟨e15, e16, e17, e18, e19, e20, e21, hargs⟩ := h c
    exact ⟨e15.trans (final15 m c), e16.trans (final16 m c), e17.trans (final17 m c), e18.trans (final18 m c), e19.trans (final19 m c), e20.trans (final20 m c), e21.trans (final21 m c), hargs⟩
  · refine (θ_run _ _ _).mono (fun r h c => ?_) (Cert.MlpRefIdeal.Value.run m' g')
    obtain ⟨e15, e16, e17, e18, e19, e20, e21, hargs⟩ := h c
    obtain ⟨a0, a1, a2, a3, a4, a5, a6, a7, a8, a9, a10, a11, a12, a13, a14⟩ := hag c
    exact ⟨e15.trans (G15_congr a0 a1 a2 a3 a4 a5 a6 a7 a8 a9 a10 a11 a12 a13 a14), e16.trans (G16_congr a0 a1 a2 a3 a4 a5 a6 a7 a8 a9 a10 a11 a12 a13 a14), e17.trans (G17_congr a0 a1 a2 a3 a4 a5 a6 a7 a8 a9 a10 a11 a12 a13 a14), e18.trans (G18_congr a0 a1 a2 a3 a4 a5 a6 a7 a8 a9 a10 a11 a12 a13 a14), e19.trans (G19_congr a0 a1 a2 a3 a4 a5 a6 a7 a8 a9 a10 a11 a12 a13 a14), e20.trans (G20_congr a0 a1 a2 a3 a4 a5 a6 a7 a8 a9 a10 a11 a12 a13 a14), e21.trans (G21_congr a0 a1 a2 a3 a4 a5 a6 a7 a8 a9 a10 a11 a12 a13 a14), hargs⟩

end Cert.MlpRows
-- ==== Proof.Qkv.Rows.lean ====
module

public import proofs.«01_k».proof.Proof.Mlp.Rows

@[expose] public section

/-! The first part of the vision block, up to the attention, written for ONE row (one token) of its arrays over the
    extended reals: the quantised norm, the projection to queries, keys and values, the rotary positions, and the channels
    that carry the token's id. -/

set_option maxRecDepth 16384

noncomputable section

namespace Cert.QkvRow

open Idealize.ShloMosaic Cert.Rows

/-- The rotary positions on the 80 channels of one head: each half turned against the other. -/
def rot (t c s : Fin 80 → EReal) (d : Fin 80) : EReal :=
  t d * c d + (if h : d.val < 40 then -(t ⟨40 + d.val, by omega⟩) else t ⟨d.val - 40, by omega⟩) * s d

/-- The same with the first half's product subtracted, as a kernel spells it. -/
theorem rot_eq (t c s : Fin 80 → EReal) (d : Fin 80) :
    (if h : d.val < 40 then t d * c d - t ⟨40 + d.val, by omega⟩ * s d
      else t d * c d + t ⟨d.val - 40, by omega⟩ * s d) = rot t c s d := by
  unfold rot
  split
  · rw [EReal.neg_mul, sub_eq_add_neg]
  · rfl

/-- Whether the id channel `e` of 48 stands for the token's id: the first 16 for its low four bits, the other 32 for the rest. -/
def hit (x : BitVec 32) (e : Fin 48) : Prop :=
  if e.val < 16 then x &&& 15#32 = BitVec.ofNat 32 e.val else x.sshiftRight 4 = BitVec.ofNat 32 (e.val - 16)

open Classical in
/-- An id channel with one value where it stands for the id and another elsewhere. -/
def idChannel (yes no : EReal) (x : BitVec 32) (e : Fin 48) : EReal := if hit x e then yes else no

/-- One of the 2048 channels of a query or a key: 16 heads of 128, a head's 80 turned channels and then its 48 id channels. -/
def channel (t : Fin 16 → Fin 80 → EReal) (c s : Fin 80 → EReal) (mask : Fin 48 → EReal) (R : Fin 2048) : EReal :=
  if h : R.val % 128 < 80 then rot (t ⟨R.val / 128, by omega⟩) c s ⟨R.val % 128, h⟩
  else mask ⟨R.val % 128 - 80, by omega⟩

/-- A choice by a test bit is the id channel, when the bit says whether the channel stands for the id. -/
theorem select_hit (yes no : EReal) (x : BitVec 32) (e : Fin 48) (b : BitVec 1) (h : b = 1#1 ↔ hit x e) :
    Scalar.select b yes no = idChannel yes no x e := by
  unfold Scalar.select idChannel
  by_cases hb : b = 1#1
  · exact (if_pos hb).trans (if_pos (h.mp hb)).symm
  · exact (if_neg hb).trans (if_neg (fun k => hb (h.mpr k))).symm

/-- The squared norm of a turned head. -/
def sqNorm (t c s : Fin 80 → EReal) : EReal := ∑ d, rot t c s d * rot t c s d

/-- A squared norm is not negative, whatever its channels. -/
theorem sqNorm_nonneg (t c s : Fin 80 → EReal) : 0 ≤ sqNorm t c s := by
  refine Finset.sum_nonneg fun d _ => ?_
  rcases le_total 0 (rot t c s d) with h | h
  · exact mul_nonneg h h
  · rw [← neg_mul_neg]
    exact mul_nonneg (EReal.neg_nonneg.mpr h) (EReal.neg_nonneg.mpr h)

/-- The largest of 32 numbers, started from minus infinity. -/
def largest (f : Fin 32 → EReal) : EReal := Finset.univ.fold max (Ideal.ofBits .f32 0xFF800000#32) f

/-- The largest of the first `n` of them, started from zero. -/
def largestTo (f : Fin 32 → EReal) (n : ℕ) : EReal := (Finset.univ.filter fun k : Fin 32 => k.val < n).fold max 0 f

/-- Of the first one alone. -/
theorem largestTo_one (f : Fin 32 → EReal) (k : Fin 32) (hk : k.val = 0) : largestTo f (k.val + 1) = max 0 (f k) := by
  unfold largestTo
  have e : (Finset.univ.filter fun j : Fin 32 => j.val < k.val + 1) = {k} := by
    ext j
    simp only [Finset.mem_filter, Finset.mem_univ, true_and, Finset.mem_singleton, Fin.ext_iff]
    omega
  rw [e, Finset.fold_singleton, max_comm]

/-- One more number. -/
theorem largestTo_step (f : Fin 32 → EReal) (k : Fin 32) : largestTo f (k.val + 1) = max (largestTo f k.val) (f k) := by
  unfold largestTo
  have e : (Finset.univ.filter fun j : Fin 32 => j.val < k.val + 1) = insert k (Finset.univ.filter fun j : Fin 32 => j.val < k.val) := by
    ext j
    simp only [Finset.mem_filter, Finset.mem_univ, true_and, Finset.mem_insert, Fin.ext_iff]
    omega
  rw [e, Finset.fold_insert (by simp), max_comm]

/-- Over all of them the start does not matter when none is negative. -/
theorem largestTo_all (f : Fin 32 → EReal) (hf : ∀ k, 0 ≤ f k) : largestTo f 32 = largest f := by
  unfold largestTo largest
  rw [negInf_eq, Finset.filter_true_of_mem fun k _ => k.isLt]
  apply le_antisymm
  · rw [Finset.fold_max_le]
    exact ⟨Finset.le_fold_max _ |>.mpr (Or.inr ⟨0, Finset.mem_univ _, hf 0⟩),
      fun k hk => Finset.le_fold_max _ |>.mpr (Or.inr ⟨k, hk, le_rfl⟩)⟩
  · rw [Finset.fold_max_le]
    exact ⟨bot_le, fun k hk => Finset.le_fold_max _ |>.mpr (Or.inr ⟨k, hk, le_rfl⟩)⟩

section Row

variable (x g : Fin 1280 → EReal) (w : Fin 1280 → Fin 3840 → EReal) (sw b : Fin 3840 → EReal) (c s : Fin 80 → EReal)
  (id : BitVec 32)

/-- The projection of the quantised norm. -/
def proj (j : Fin 3840) : EReal := linear (code (rms x g)) (scale (rms x g)) w sw b j

/-- Head `h`'s channels of part `p` of the projection: 0 the queries, 1 the keys, 2 the values. -/
def part (p : Fin 3) (h : Fin 16) (d : Fin 80) : EReal := proj x g w sw b ⟨p.val * 1280 + h.val * 80 + d.val, by omega⟩

/-- The query. -/
def query (R : Fin 2048) : EReal :=
  channel (part x g w sw b 0) c s (idChannel (Ideal.ofBits .f32 0x00000000#32) (Ideal.ofBits .f32 0xF1800000#32) id) R

/-- The key. -/
def key (R : Fin 2048) : EReal :=
  channel (part x g w sw b 1) c s (idChannel (Ideal.ofBits .f32 0x3F800000#32) (Ideal.ofBits .f32 0x00000000#32) id) R

/-- The value. -/
def value (j : Fin 1280) : EReal := proj x g w sw b ⟨2560 + j.val, by omega⟩

/-- The squared norm of one of the 32 heads: the queries' 16 and then the keys' 16. -/
def headNorm (h : Fin 32) : EReal :=
  if k : h.val < 16 then sqNorm (part x g w sw b 0 ⟨h.val, k⟩) c s else sqNorm (part x g w sw b 1 ⟨h.val - 16, by omega⟩) c s

/-- The norm of a query's head. -/
theorem headNorm_queries (h : Fin 32) (k : h.val < 16) : headNorm x g w sw b c s h = sqNorm (part x g w sw b 0 ⟨h.val, k⟩) c s :=
  dif_pos k

/-- The norm of a key's head. -/
theorem headNorm_keys (h : Fin 32) (k : ¬ h.val < 16) :
    headNorm x g w sw b c s h = sqNorm (part x g w sw b 1 ⟨h.val - 16, by omega⟩) c s := dif_neg k

/-- A head's squared norm is not negative. -/
theorem headNorm_nonneg (h : Fin 32) : 0 ≤ headNorm x g w sw b c s h := by
  unfold headNorm
  split <;> exact sqNorm_nonneg _ _ _

end Row

end Cert.QkvRow
-- ==== Proof.Qkv.KernelRows.lean ====
module

public import Idealize.ShloMosaic.Lib.Pointwise
public import Idealize.ShloMosaic.Lib.Pipeline.ValueKit
public import Idealize.ShloMosaic.Lib.Ring
public import proofs.«01_k».proof.Proof.Gen.QkvIdeal.Skeleton
public import proofs.«01_k».proof.Proof.Qkv.Rows

@[expose] public section

/-! The kernel's named values over one block of 256 rows, read at one index: each is the row function of `Cert.QkvRow` at
that row. Queries, keys and values are kept with the tokens along the lanes, so the kernel turns a head of 80 channels by
halves of 40 rows. -/

set_option maxRecDepth 16384

noncomputable section

namespace Cert.QkvRows

open Idealize.ShloMosaic Idealize.ShloMosaic.Tactic Cert.QkvIdeal Cert.QkvIdeal.Gen Cert.Rows Cert.QkvRow

/-! ## The quantised norm -/

/-- The scale from the largest sizes. -/
theorem scaleOf_at (v : FVec Ideal S256x1 .f32) (r : Fin 256) :
    select (cmpf .oeq v (broadcast S256x1 (Scalar.ofBits .f32 0x00000000#32 : Ideal .f32)))
      (broadcast S256x1 (Scalar.ofBits .f32 0x3F800000#32 : Ideal .f32))
      (divf v (broadcast S256x1 (Scalar.ofBits .f32 0x43E00000#32 : Ideal .f32))) (ix2 r 0) = scaleOf (v (ix2 r 0)) := by
  pointwise
  rfl

/-- The scales laid along the lanes. -/
theorem lanes_at (s : FVec Ideal S256x1 .f32) (r : Fin 256) :
    extractStridedSlice S1x256 ![0, 0] (transpose S128x256 [1, 0] (broadcastTo S256x128
      (shapeCast S256x1 s shapeCasts_S256x1_S256x1) broadcasts_S256x1_S256x128) transposes_S256x128_p1_0_S128x256)
      slices_S128x256_o0_0_S1x256 (ix2 0 r) = s (ix2 r 0) := by
  pointwise

/-- The largest size in the rows of a 1280-wide block. -/
theorem rowMax_1280 (v : FVec Ideal S256x1280 .f32) (r : Fin 256) :
    shapeCast S256x1 (multiReduction .maximumf [1] S256 (absf v) 0xFF800000#32 reduces_S256x1280_S256 (.inl rfl) rfl)
      shapeCasts_S256_S256x1 (ix2 r 0) = rowMax (row v r) := by
  pointwise
  rfl

/-- The codes of a 1280-wide block under its scales. -/
theorem code_1280 (v : FVec Ideal S256x1280 .f32) (s : FVec Ideal S256x1 .f32) (r : Fin 256) (j : Fin 1280) :
    (truncf .fp8e4m3 (minimumf (broadcast S256x1280 (Scalar.ofBits .f32 0x43E00000#32 : Ideal .f32))
      (maximumf (broadcast S256x1280 (Scalar.ofBits .f32 0xC3E00000#32 : Ideal .f32))
        (divf v (broadcastTo S256x1280 s broadcasts_S256x1_S256x1280))))
      bitsLt_fp8e4m3_f32 : FVec Ideal S256x1280 .fp8e4m3) (ix2 r j) = codeOf (v (ix2 r j)) (s (ix2 r 0)) := by
  pointwise
  rfl

/-- The norm. -/
theorem pay4_at (x0 : Vec Ideal S256x1280 .bf16) (x1 : Vec Ideal S1x1280 .f32) (r : Fin 256) (j : Fin 1280) :
    k0_pay4 x0 x1 (ix2 r j) = rms (row x0 r) (row x1 0) j := by
  pointwise [k0_pay4]
  rfl

/-- A row of the normalised block. -/
theorem row_pay4 (x0 : Vec Ideal S256x1280 .bf16) (x1 : Vec Ideal S1x1280 .f32) (r : Fin 256) :
    row (k0_pay4 x0 x1) r = rms (row x0 r) (row x1 0) := funext (pay4_at x0 x1 r)

/-- The scales. -/
theorem pay5_at (x0 : Vec Ideal S256x1280 .bf16) (x1 : Vec Ideal S1x1280 .f32) (r : Fin 256) :
    k0_pay5 x0 x1 (ix2 r 0) = scale (rms (row x0 r) (row x1 0)) :=
  (scaleOf_at _ r).trans (congrArg scaleOf ((rowMax_1280 (k0_pay4 x0 x1) r).trans (congrArg rowMax (row_pay4 x0 x1 r))))

/-- The codes. -/
theorem pay6_at (x0 : Vec Ideal S256x1280 .bf16) (x1 : Vec Ideal S1x1280 .f32) (r : Fin 256) (j : Fin 1280) :
    k0_pay6 x0 x1 (ix2 r j) = code (rms (row x0 r) (row x1 0)) j :=
  (code_1280 (k0_pay4 x0 x1) (k0_pay5 x0 x1) r j).trans (by rw [pay4_at, pay5_at]; rfl)

/-- A row of the block of codes. -/
theorem row_pay6 (x0 : Vec Ideal S256x1280 .bf16) (x1 : Vec Ideal S1x1280 .f32) (r : Fin 256) :
    row (k0_pay6 x0 x1) r = code (rms (row x0 r) (row x1 0)) := funext (pay6_at x0 x1 r)

/-- The scales along the lanes. -/
theorem pay7_at (x0 : Vec Ideal S256x1280 .bf16) (x1 : Vec Ideal S1x1280 .f32) (r : Fin 256) :
    k0_pay7 x0 x1 (ix2 0 r) = scale (rms (row x0 r) (row x1 0)) :=
  (lanes_at (k0_pay5 x0 x1) r).trans (pay5_at x0 x1 r)

/-! ## The projection, one part of 1280 channels at a time -/

/-- One part of the projection, with the tokens along the lanes. -/
def block (s : FVec Ideal S256x1 .f32) (c : FVec Ideal S256x1280 .fp8e4m3) (w : FVec Ideal S1280x1280 .fp8e4m3)
    (sw b : FVec Ideal S1x1280 .f32) : FVec Ideal S1280x256 .f32 := k0_pay14 (k0_pay13 s c w sw) b

/-- The part at an index. -/
theorem block_at (s : FVec Ideal S256x1 .f32) (c : FVec Ideal S256x1280 .fp8e4m3) (w : FVec Ideal S1280x1280 .fp8e4m3)
    (sw b : FVec Ideal S1x1280 .f32) (j : Fin 1280) (r : Fin 256) :
    block s c w sw b (ix2 j r) = linear (row c r) (s (ix2 r 0)) (mat w) (row sw 0) (row b 0) j := by
  pointwise [block, k0_pay14, k0_pay13]
  rfl

/-- The values at an index. -/
theorem pay2_at (s : FVec Ideal S256x1 .f32) (c : FVec Ideal S256x1280 .fp8e4m3) (w : FVec Ideal S1280x1280 .fp8e4m3)
    (sw b : FVec Ideal S1x1280 .f32) (j : Fin 1280) (r : Fin 256) :
    k0_pay2 s c w sw b (ix2 j r) = linear (row c r) (s (ix2 r 0)) (mat w) (row sw 0) (row b 0) j := by
  pointwise [k0_pay2]
  rfl

/-! ## The heads -/

/-- A head's 80 rows of a part. -/
theorem head_at (P : FVec Ideal S1280x256 .f32) (o : ℕ) (h : S1280x256.Slices ![o, 0] S80x256) (ho : o + 80 ≤ 1280)
    (d : Fin 80) (r : Fin 256) : extractStridedSlice S80x256 ![o, 0] P h (ix2 d r) = P (ix2 ⟨o + d.val, by omega⟩ r) :=
  extractStridedSlice_apply ![o, 0] _ _ (ix2 d r) (ix2 ⟨o + d.val, by omega⟩ r)
    (Fin.forall_fin_two.mpr ⟨rfl, (Nat.zero_add _).symm⟩)

/-- A head turned by its tokens' rotary positions, by halves. -/
def turned (C S t : FVec Ideal S80x256 .f32) : FVec Ideal S80x256 .f32 :=
  concatenate S80x256 0
    [⟨S40x256, subf (mulf (extractStridedSlice S40x256 ![0, 0] t slices_S80x256_o0_0_S40x256) (extractStridedSlice S40x256 ![0, 0] C slices_S80x256_o0_0_S40x256))
        (mulf (extractStridedSlice S40x256 ![40, 0] t slices_S80x256_o40_0_S40x256) (extractStridedSlice S40x256 ![0, 0] S slices_S80x256_o0_0_S40x256))⟩,
      ⟨S40x256, addf (mulf (extractStridedSlice S40x256 ![40, 0] t slices_S80x256_o40_0_S40x256) (extractStridedSlice S40x256 ![40, 0] C slices_S80x256_o40_0_S40x256))
        (mulf (extractStridedSlice S40x256 ![0, 0] t slices_S80x256_o0_0_S40x256) (extractStridedSlice S40x256 ![40, 0] S slices_S80x256_o40_0_S40x256))⟩]
    concatenates_S40x256_S40x256_S80x256_d0

/-- The turned head at an index. -/
theorem turned_at (C S t : FVec Ideal S80x256 .f32) (d : Fin 80) (r : Fin 256) :
    turned C S t (ix2 d r) = rot (fun d => t (ix2 d r)) (fun d => C (ix2 d r)) (fun d => S (ix2 d r)) d := by
  pointwise [turned]
  rw [← rot_eq]
  split
  · rfl
  · have e : (⟨40 + (d.val - 40), by omega⟩ : Fin 80) = d := Fin.ext (by show 40 + (d.val - 40) = d.val; omega)
    rw [e]

/-- A row of running maxima after one block: the old row against the squared norms of the block's head. -/
def normRow (t : FVec Ideal S80x256 .f32) (old : Vec Ideal S1x256 .f32) : FVec Ideal S1x256 .f32 :=
  maximumf (shapeCast S1x256 old shapeCasts_S1x256_S1x256)
    (shapeCast S1x256 (multiReduction .add [0] S256 (mulf t t) 0x00000000#32 reduces_S80x256_S256 (.inl rfl) rfl) shapeCasts_S256_S1x256)

/-- The new row at an index. -/
theorem normRow_at (t : FVec Ideal S80x256 .f32) (old : Vec Ideal S1x256 .f32) (r : Fin 256) :
    normRow t old (ix2 0 r) = max (old (ix2 0 r)) (∑ d, t (ix2 d r) * t (ix2 d r)) := by
  pointwise [normRow]

/-- The rotary positions with the tokens along the lanes. -/
theorem pay11_at (x : Vec Ideal S256x80 .f32) (d : Fin 80) (r : Fin 256) : k0_pay11 x (ix2 d r) = row x r d := by
  pointwise [k0_pay11]

/-- The transposed block of sines at one entry. -/
theorem pay12_at (x : Vec Ideal S256x80 .f32) (d : Fin 80) (r : Fin 256) : k0_pay12 x (ix2 d r) = row x r d := by
  pointwise [k0_pay12]

/-! ## The id channels -/

/-- Which of the 48 id channels stand for the low four bits, as the kernel asks it. -/
theorem low_channel : ∀ e : Fin 48, IntOp.cmpi .slt (BitVec.ofNat 32 e.val) 16#32 = if e.val < 16 then 1#1 else 0#1 := by
  decide

/-- The other channels' numbers, counted from the first of them. -/
theorem high_channel : ∀ e : Fin 48, ¬ e.val < 16 → BitVec.ofNat 32 e.val = BitVec.ofNat 32 (e.val - 16) + 16#32 := by
  decide

/-- The id channels' test. -/
theorem pay8_at (x : Vec Ideal S1x256 .i32) (e : Fin 48) (r : Fin 256) : k0_pay8 x (ix2 e r) = 1#1 ↔ hit (x (ix2 0 r)) e := by
  pointwise [k0_pay8]
  rw [low_channel]
  unfold hit
  split
  · exact IntOp.cmpi_eq.trans eq_comm
  · next h =>
    refine IntOp.cmpi_eq.trans ?_
    rw [high_channel e h]
    exact (BitVec.add_left_inj _).trans eq_comm

/-- The keys' id channels. -/
theorem pay9_at (x : Vec Ideal S1x256 .i32) (e : Fin 48) (r : Fin 256) :
    k0_pay9 x (ix2 e r) = idChannel (Ideal.ofBits .f32 0x3F800000#32) (Ideal.ofBits .f32 0x00000000#32) (x (ix2 0 r)) e :=
  select_hit _ _ _ _ _ (pay8_at x e r)

/-- The queries' id channels. -/
theorem pay10_at (x : Vec Ideal S1x256 .i32) (e : Fin 48) (r : Fin 256) :
    k0_pay10 x (ix2 e r) = idChannel (Ideal.ofBits .f32 0x00000000#32) (Ideal.ofBits .f32 0xF1800000#32) (x (ix2 0 r)) e :=
  select_hit _ _ _ _ _ (pay8_at x e r)

/-- A key's head with its id channels behind, a token's 128 channels along the lanes. -/
theorem pay1_at (M : FVec Ideal S48x256 .bf16) (t : FVec Ideal S80x256 .f32) (r : Fin 256) (q : Fin 128) :
    k0_pay1 M t (ix2 r q) = if h : q.val < 80 then t (ix2 ⟨q.val, h⟩ r) else M (ix2 ⟨q.val - 80, by omega⟩ r) := by
  pointwise [k0_pay1]

end Cert.QkvRows
-- ==== Proof.Qkv.Pieces.lean ====
module

public import Idealize.ShloMosaic.Lib.Pipeline.ReadBack
public import Idealize.ShloMosaic.Lib.Pipeline.CanonAppend
public import Idealize.ShloMosaic.Lib.ValueIdx
public import proofs.«01_k».proof.Proof.Qkv.KernelRows

@[expose] public section

/-! The kernel's query and key blocks as the list of the pieces it stores, head by head, and what that list leaves at an
index. -/

set_option maxRecDepth 16384

noncomputable section

namespace Cert.QkvRows

open Idealize.ShloMosaic Idealize.ShloMosaic.Tactic Cert.QkvIdeal Cert.QkvIdeal.Gen Cert.Rows Cert.QkvRow

/-- An index of a matrix is a row and a column. -/
theorem exists_ix2 {n m : ℕ} (x : (⟨2, ![n, m]⟩ : Shape).Idx) : ∃ (r : Fin n) (l : Fin m), x = ix2 r l :=
  ⟨x 0, x 1, by funext a; fin_cases a <;> rfl⟩

/-! ## Parts of the weights -/

/-- 1280 columns of the weights, from column `o`. -/
def cutW (x : Vec Ideal S1280x3840 .fp8e4m3) (o : ℕ) (h : o + 1280 ≤ 3840) : Vec Ideal S1280x1280 .fp8e4m3 :=
  View.ld (Val := Elt Ideal) (S := S1280x3840) (e' := .fp8e4m3) x (Rect.unit (s := S1280x3840) ![0, o] ![1280, 1280] (Fin.forall_fin_two.mpr ⟨Nat.le_refl 1280, h⟩))

/-- 1280 entries of a row vector, from entry `o`. -/
def cutR (x : Vec Ideal S1x3840 .f32) (o : ℕ) (h : o + 1280 ≤ 3840) : Vec Ideal S1x1280 .f32 :=
  View.ld (Val := Elt Ideal) (S := S1x3840) (e' := .f32) x (Rect.unit (s := S1x3840) ![0, o] ![1, 1280] (Fin.forall_fin_two.mpr ⟨Nat.le_refl 1, h⟩))

/-- A cut of the weights at one entry. -/
theorem cutW_at (x : Vec Ideal S1280x3840 .fp8e4m3) (o : ℕ) (h : o + 1280 ≤ 3840) (k : Fin 1280) (l : Fin 1280) :
    cutW x o h (ix2 k l) = x (ix2 k ⟨o + l.val, by have := l.isLt; omega⟩) := by
  unfold cutW
  exact View.ld_unit_apply_of x _ _ _ (ix2 k l) (ix2 k ⟨o + l.val, by have := l.isLt; omega⟩) (Fin.forall_fin_two.mpr ⟨(Nat.zero_add _).symm, rfl⟩)

/-- A cut of a row of scales or biases at one entry. -/
theorem cutR_at (x : Vec Ideal S1x3840 .f32) (o : ℕ) (h : o + 1280 ≤ 3840) (l : Fin 1280) :
    cutR x o h (ix2 0 l) = x (ix2 0 ⟨o + l.val, by have := l.isLt; omega⟩) := by
  unfold cutR
  exact View.ld_unit_apply_of x _ _ _ (ix2 0 l) (ix2 0 ⟨o + l.val, by have := l.isLt; omega⟩) (Fin.forall_fin_two.mpr ⟨(Nat.zero_add _).symm, rfl⟩)

/-- A channel of a part is that channel of the whole projection. -/
theorem linear_cut (c : Fin 1280 → EReal) (s : EReal) (w : Vec Ideal S1280x3840 .fp8e4m3) (sw b : Vec Ideal S1x3840 .f32)
    (o : ℕ) (h : o + 1280 ≤ 3840) (j : Fin 1280) :
    linear c s (mat (cutW w o h)) (row (cutR sw o h) 0) (row (cutR b o h) 0) j
      = linear c s (mat w) (row sw 0) (row b 0) ⟨o + j.val, by have := j.isLt; omega⟩ := by
  have e1 : mat (cutW w o h) = fun k l => mat w k ⟨o + l.val, by have := l.isLt; omega⟩ := funext fun k => funext fun l => cutW_at w o h k l
  have e2 : row (cutR sw o h) 0 = fun l => row sw 0 ⟨o + l.val, by have := l.isLt; omega⟩ := funext fun l => cutR_at sw o h l
  have e3 : row (cutR b o h) 0 = fun l => row b 0 ⟨o + l.val, by have := l.isLt; omega⟩ := funext fun l => cutR_at b o h l
  rw [e1, e2, e3]
  rfl

section Part

variable (x0 : Vec Ideal S256x1280 .bf16) (x1 : Vec Ideal S1x1280 .f32) (x2 : Vec Ideal S1280x3840 .fp8e4m3)
  (x3 x4 : Vec Ideal S1x3840 .f32)

/-- Part of the projection of a block, from channel `o`. -/
def partOf (o : ℕ) (h : o + 1280 ≤ 3840) : FVec Ideal S1280x256 .f32 :=
  block (k0_pay5 x0 x1) (k0_pay6 x0 x1) (cutW x2 o h) (cutR x3 o h) (cutR x4 o h)

/-- A third of the projected block, transposed, at one entry. -/
theorem partOf_at (o : ℕ) (h : o + 1280 ≤ 3840) (j : Fin 1280) (r : Fin 256) :
    partOf x0 x1 x2 x3 x4 o h (ix2 j r)
      = proj (row x0 r) (row x1 0) (mat x2) (row x3 0) (row x4 0) ⟨o + j.val, by have := j.isLt; omega⟩ := by
  unfold partOf proj
  rw [block_at, row_pay6, pay5_at, linear_cut]

/-- The values' block at an index. -/
theorem valueOf_at (j : Fin 1280) (r : Fin 256) :
    k0_pay2 (k0_pay5 x0 x1) (k0_pay6 x0 x1) (cutW x2 2560 (by decide)) (cutR x3 2560 (by decide)) (cutR x4 2560 (by decide)) (ix2 j r)
      = value (row x0 r) (row x1 0) (mat x2) (row x3 0) (row x4 0) j := by
  unfold value proj
  rw [pay2_at, row_pay6, pay5_at, linear_cut]

end Part

/-! ## The stored pieces -/

/-- The rows of a head lie within a third of the projected block. -/
theorem head_slices (h : Fin 16) : S1280x256.Slices ![80 * h.val, 0] S80x256 := by
  revert h
  decide

/-- The heads in the order of their pieces, the last stored first. -/
def heads : List (Fin 16) := [15, 14, 13, 12, 11, 10, 9, 8, 7, 6, 5, 4, 3, 2, 1, 0]

/-- Every head is in the list of heads. -/
theorem mem_heads : ∀ h : Fin 16, h ∈ heads := by decide

/-- Head `h` of a part, turned. -/
def turnedHead (C S : FVec Ideal S80x256 .f32) (P : FVec Ideal S1280x256 .f32) (h : Fin 16) : FVec Ideal S80x256 .f32 :=
  turned C S (extractStridedSlice S80x256 ![80 * h.val, 0] P (head_slices h))

/-- A turned head of the block at one entry. -/
theorem turnedHead_at (C S : FVec Ideal S80x256 .f32) (P : FVec Ideal S1280x256 .f32) (h : Fin 16) (d : Fin 80) (r : Fin 256) :
    turnedHead C S P h (ix2 d r) = rot (fun d => P (ix2 ⟨80 * h.val + d.val, by omega⟩ r)) (fun d => C (ix2 d r)) (fun d => S (ix2 d r)) d := by
  unfold turnedHead
  rw [turned_at]
  congr 1
  funext d
  exact head_at P (80 * h.val) _ (by omega) d r

/-- The id channels of a head lie within the block of queries. -/
theorem mask_inb (h : Fin 16) : ∀ a : Fin S2048x256.rank, ![128 * h.val + 80, 0] a + ![48, 256] a ≤ S2048x256.size a :=
  Fin.forall_fin_two.mpr ⟨by show 128 * h.val + 80 + 48 ≤ 2048; omega, Nat.le_refl 256⟩

/-- The channels of a head lie within the block of queries. -/
theorem head_inb (h : Fin 16) : ∀ a : Fin S2048x256.rank, ![128 * h.val, 0] a + ![80, 256] a ≤ S2048x256.size a :=
  Fin.forall_fin_two.mpr ⟨by show 128 * h.val + 80 ≤ 2048; omega, Nat.le_refl 256⟩

/-- The channels of a head, with its id channels, lie within the block of keys. -/
theorem key_inb (h : Fin 16) : ∀ a : Fin S256x2048.rank, ![0, 128 * h.val] a + ![256, 128] a ≤ S256x2048.size a :=
  Fin.forall_fin_two.mpr ⟨Nat.le_refl 256, by show 128 * h.val + 128 ≤ 2048; omega⟩

/-- The id channels' piece of a query's head. -/
def maskPiece (M : FVec Ideal S48x256 .bf16) (h : Fin 16) : View.Piece (Elt Ideal) S2048x256 .bf16 :=
  ⟨Rect.unit (s := S2048x256) ![128 * h.val + 80, 0] ![48, 256] (mask_inb h), M⟩

/-- The turned channels' piece of a query's head. -/
def headPiece (t : FVec Ideal S80x256 .bf16) (h : Fin 16) : View.Piece (Elt Ideal) S2048x256 .bf16 :=
  ⟨Rect.unit (s := S2048x256) ![128 * h.val, 0] ![80, 256] (head_inb h), t⟩

/-- A key's head. -/
def keyPiece (t : FVec Ideal S256x128 .bf16) (h : Fin 16) : View.Piece (Elt Ideal) S256x2048 .bf16 :=
  ⟨Rect.unit (s := S256x2048) ![0, 128 * h.val] ![256, 128] (key_inb h), t⟩

/-- The queries' block. -/
def queryPieces (C S : FVec Ideal S80x256 .f32) (P : FVec Ideal S1280x256 .f32) (M : FVec Ideal S48x256 .bf16) :
    List (View.Piece (Elt Ideal) S2048x256 .bf16) :=
  heads.flatMap fun h => [maskPiece M h, headPiece (truncf .bf16 (turnedHead C S P h) bitsLt_bf16_f32) h]

/-- The keys' block. -/
def keyPieces (C S : FVec Ideal S80x256 .f32) (P : FVec Ideal S1280x256 .f32) (M : FVec Ideal S48x256 .bf16) :
    List (View.Piece (Elt Ideal) S256x2048 .bf16) :=
  heads.map fun h => keyPiece (k0_pay1 M (turnedHead C S P h)) h

/-- A row lies within the block of norms. -/
theorem norm_inb (k : ℕ) (hk : k < 32) : ∀ a : Fin S32x256.rank, ![k, 0] a + ![1, 256] a ≤ S32x256.size a :=
  Fin.forall_fin_two.mpr ⟨by show k + 1 ≤ 32; omega, Nat.le_refl 256⟩

/-- One row of the norms. -/
def normRect (k : ℕ) (hk : k < 32) : Rect S32x256 := Rect.unit (s := S32x256) ![k, 0] ![1, 256] (norm_inb k hk)

/-- Row `k` of the norms, over the contents `X` before: the new maxima with the turned head `t`. -/
def normPiece (X : Vec Ideal S32x256 .f32) (t : FVec Ideal S80x256 .f32) (k : ℕ) (hk : k < 32) : View.Piece (Elt Ideal) S32x256 .f32 :=
  ⟨normRect k hk, normRow t (View.ld (Val := Elt Ideal) (S := S32x256) (e' := .f32) X (normRect k hk))⟩

/-- The rows of the norms over the contents `X` before: the queries' heads `P` in rows 0 to 15, the keys' heads `Q` in rows 16
to 31. -/
def normPieces (X : Vec Ideal S32x256 .f32) (C S : FVec Ideal S80x256 .f32) (P Q : FVec Ideal S1280x256 .f32) :
    List (View.Piece (Elt Ideal) S32x256 .f32) :=
  (heads.map fun h => normPiece X (turnedHead C S Q h) (16 + h.val) (by omega))
    ++ heads.map fun h => normPiece X (turnedHead C S P h) h.val (by omega)

/-- The zeros the whole block starts from. -/
def zeroPiece : View.Piece (Elt Ideal) S32x256 .f32 :=
  ⟨Rect.unit (s := S32x256) ![0, 0] ![32, 256] (Fin.forall_fin_two.mpr ⟨Nat.le_refl 32, Nat.le_refl 256⟩), k0_pay3 (F := Ideal)⟩

section Norms

variable (X : Vec Ideal S32x256 .f32) (C S : FVec Ideal S80x256 .f32) (P Q : FVec Ideal S1280x256 .f32)

/-- The squared norm of one of a block's 32 heads, at one lane. -/
def blockNorm (H : Fin 32) (r : Fin 256) : EReal :=
  if k : H.val < 16 then ∑ d, turnedHead C S P ⟨H.val, k⟩ (ix2 d r) * turnedHead C S P ⟨H.val, k⟩ (ix2 d r)
  else ∑ d, turnedHead C S Q ⟨H.val - 16, by omega⟩ (ix2 d r) * turnedHead C S Q ⟨H.val - 16, by omega⟩ (ix2 d r)

/-- The norm in a query's row. -/
theorem blockNorm_query (h : Fin 16) (H : Fin 32) (e : H.val = h.val) (r : Fin 256) :
    ∑ d, turnedHead C S P h (ix2 d r) * turnedHead C S P h (ix2 d r) = blockNorm C S P Q H r := by
  unfold blockNorm
  rw [dif_pos (by omega)]
  have e1 : (⟨H.val, by omega⟩ : Fin 16) = h := Fin.ext e
  rw [e1]

/-- The norm in a key's row. -/
theorem blockNorm_key (h : Fin 16) (H : Fin 32) (e : H.val = 16 + h.val) (r : Fin 256) :
    ∑ d, turnedHead C S Q h (ix2 d r) * turnedHead C S Q h (ix2 d r) = blockNorm C S P Q H r := by
  unfold blockNorm
  rw [dif_neg (by omega)]
  have e1 : (⟨H.val - 16, by omega⟩ : Fin 16) = h := Fin.ext (by show H.val - 16 = h.val; omega)
  rw [e1]

/-- A row's piece holds, at its lanes, the old entry against the head's squared norm. -/
theorem normPiece_at (t : FVec Ideal S80x256 .f32) (k : ℕ) (hk : k < 32) (N : Fin 32 → Fin 256 → EReal)
    (hN : ∀ r, ∑ d, t (ix2 d r) * t (ix2 d r) = N ⟨k, hk⟩ r) (x : (normPiece X t k hk).1.shape.Idx) :
    (normPiece X t k hk).2 x = max (X ((normPiece X t k hk).1.emb x))
      (N ((normPiece X t k hk).1.emb x 0) ((normPiece X t k hk).1.emb x 1)) := by
  obtain ⟨z, r, rfl⟩ : ∃ (z : Fin 1) (r : Fin 256), x = ix2 z r := exists_ix2 (n := 1) (m := 256) x
  obtain rfl : z = 0 := Subsingleton.elim _ _
  have er : (normPiece X t k hk).1.emb (ix2 0 r) 1 = r := Fin.ext (by show 0 + 1 * r.val = r.val; omega)
  have ek : (normPiece X t k hk).1.emb (ix2 0 r) 0 = ⟨k, hk⟩ := Fin.ext (by show k + 1 * 0 = k; omega)
  exact (normRow_at t _ r).trans (congrArg₂ max rfl ((hN r).trans (congrArg₂ N ek er).symm))

/-- The norms' block at an index, whatever was stored in it before its rows. -/
theorem normPieces_at (L : List (View.Piece (Elt Ideal) S32x256 .f32)) (H : Fin 32) (r : Fin 256) :
    View.canon (normPieces X C S P Q ++ L) (ix2 H r) = max (X (ix2 H r)) (blockNorm C S P Q H r) := by
  refine View.canon_append_of_pieces (Val := Elt Ideal) (S := S32x256) (e := .f32)
    (fun y : S32x256.Idx => max (X y) (blockNorm C S P Q (y 0) (y 1))) L _ ?_ (ix2 H r) ?_
  · intro p hp
    rcases List.mem_append.mp hp with hp | hp
    · obtain ⟨h, -, rfl⟩ := List.mem_map.mp hp
      exact normPiece_at X _ _ _ (blockNorm C S P Q) (blockNorm_key C S P Q h _ rfl)
    · obtain ⟨h, -, rfl⟩ := List.mem_map.mp hp
      exact normPiece_at X _ _ _ (blockNorm C S P Q) (blockNorm_query C S P Q h _ rfl)
  · have hr := r.isLt
    by_cases hk : H.val < 16
    · refine ⟨normPiece X (turnedHead C S P ⟨H.val, hk⟩) H.val H.isLt,
        List.mem_append_right _ (List.mem_map.mpr ⟨⟨H.val, hk⟩, mem_heads _, rfl⟩), ?_⟩
      refine (Rect.mem_set_unit (inb := norm_inb H.val H.isLt)).mpr (Fin.forall_fin_two.mpr ⟨⟨Nat.le_refl _, ?_⟩, ⟨Nat.zero_le _, ?_⟩⟩)
      · show H.val < H.val + 1
        omega
      · show r.val < 0 + 256
        omega
    · have hH := H.isLt
      refine ⟨normPiece X (turnedHead C S Q ⟨H.val - 16, by omega⟩) (16 + (H.val - 16)) (by omega),
        List.mem_append_left _ (List.mem_map.mpr ⟨⟨H.val - 16, by omega⟩, mem_heads _, rfl⟩), ?_⟩
      refine (Rect.mem_set_unit (inb := norm_inb (16 + (H.val - 16)) (by omega))).mpr (Fin.forall_fin_two.mpr ⟨⟨?_, ?_⟩, ⟨Nat.zero_le _, ?_⟩⟩)
      · show 16 + (H.val - 16) ≤ H.val
        omega
      · show H.val < 16 + (H.val - 16) + 1
        omega
      · show r.val < 0 + 256
        omega

end Norms

section Blocks

variable (C S : FVec Ideal S80x256 .f32) (P : FVec Ideal S1280x256 .f32) (M : FVec Ideal S48x256 .bf16)

/-- A block's channel: the head's turned channel, or its id channel. -/
def blockChannel (R : Fin 2048) (r : Fin 256) : EReal :=
  channel (fun h d => P (ix2 ⟨80 * h.val + d.val, by omega⟩ r)) (fun d => C (ix2 d r)) (fun d => S (ix2 d r)) (fun e => M (ix2 e r)) R

/-- The channel of a head's turned lane. -/
theorem blockChannel_turned (h : Fin 16) (d : Fin 80) (r : Fin 256) (R : Fin 2048) (hR : R.val = 128 * h.val + d.val) :
    turnedHead C S P h (ix2 d r) = blockChannel C S P M R r := by
  unfold blockChannel channel
  have h1 : R.val % 128 = d.val := by omega
  have h2 : R.val / 128 = h.val := by omega
  rw [dif_pos (by omega), turnedHead_at]
  have e1 : (⟨R.val % 128, by omega⟩ : Fin 80) = d := Fin.ext h1
  have e2 : (⟨R.val / 128, by omega⟩ : Fin 16) = h := Fin.ext h2
  rw [e1, e2]

/-- The channel of a head's id lane. -/
theorem blockChannel_id (h : Fin 16) (e : Fin 48) (r : Fin 256) (R : Fin 2048) (hR : R.val = 128 * h.val + 80 + e.val) :
    M (ix2 e r) = blockChannel C S P M R r := by
  unfold blockChannel channel
  rw [dif_neg (by omega)]
  have e1 : (⟨R.val % 128 - 80, by omega⟩ : Fin 48) = e := Fin.ext (by show R.val % 128 - 80 = e.val; omega)
  rw [e1]

/-- What is stored in the id channels of a head is the block's channel function there. -/
theorem maskPiece_at (h : Fin 16) (x : (maskPiece M h).1.shape.Idx) :
    (maskPiece M h).2 x = blockChannel C S P M ((maskPiece M h).1.emb x 0) ((maskPiece M h).1.emb x 1) := by
  obtain ⟨e, r, rfl⟩ : ∃ (e : Fin 48) (r : Fin 256), x = ix2 e r := exists_ix2 (n := 48) (m := 256) x
  have er : (maskPiece M h).1.emb (ix2 e r) 1 = r := Fin.ext (by show 0 + 1 * r.val = r.val; omega)
  rw [er]
  exact blockChannel_id C S P M h e r _ (by show 128 * h.val + 80 + 1 * e.val = _; omega)

/-- What is stored in the channels of a head is the block's channel function there. -/
theorem headPiece_at (h : Fin 16) (x : S80x256.Idx) :
    (headPiece (truncf .bf16 (turnedHead C S P h) bitsLt_bf16_f32) h).2 x
      = blockChannel C S P M ((headPiece (truncf .bf16 (turnedHead C S P h) bitsLt_bf16_f32) h).1.emb x 0)
        ((headPiece (truncf .bf16 (turnedHead C S P h) bitsLt_bf16_f32) h).1.emb x 1) := by
  obtain ⟨d, r, rfl⟩ := exists_ix2 x
  have er : (headPiece (truncf .bf16 (turnedHead C S P h) bitsLt_bf16_f32) h).1.emb (ix2 d r) 1 = r := Fin.ext (by show 0 + 1 * r.val = r.val; omega)
  rw [er]
  exact blockChannel_turned C S P M h d r _ (by show 128 * h.val + 1 * d.val = _; omega)

/-- What is stored of the keys of a head is the block's channel function there. -/
theorem keyPiece_at (h : Fin 16) (x : S256x128.Idx) :
    (keyPiece (k0_pay1 M (turnedHead C S P h)) h).2 x
      = blockChannel C S P M ((keyPiece (k0_pay1 M (turnedHead C S P h)) h).1.emb x 1)
        ((keyPiece (k0_pay1 M (turnedHead C S P h)) h).1.emb x 0) := by
  obtain ⟨r, q, rfl⟩ := exists_ix2 x
  have er : (keyPiece (k0_pay1 M (turnedHead C S P h)) h).1.emb (ix2 r q) 0 = r := Fin.ext (by show 0 + 1 * r.val = r.val; omega)
  have eq : ((keyPiece (k0_pay1 M (turnedHead C S P h)) h).1.emb (ix2 r q) 1).val = 128 * h.val + q.val := by
    show 128 * h.val + 1 * q.val = _
    omega
  rw [er]
  refine (pay1_at M (turnedHead C S P h) r q).trans ?_
  split
  · next hq => exact blockChannel_turned C S P M h ⟨q.val, hq⟩ r _ eq
  · exact blockChannel_id C S P M h ⟨q.val - 80, by omega⟩ r _ (by rw [eq]; show _ = 128 * h.val + 80 + (q.val - 80); omega)

/-- The queries' block at an index. -/
theorem queryPieces_at (R : Fin 2048) (r : Fin 256) :
    View.canon (queryPieces C S P M) (ix2 R r) = blockChannel C S P M R r := by
  refine View.canon_apply_of_pieces (Val := Elt Ideal) (S := S2048x256) (e := .bf16)
    (fun y : S2048x256.Idx => blockChannel C S P M (y 0) (y 1)) _ ?_ (ix2 R r) ?_
  · intro p hp
    obtain ⟨h, -, hp⟩ := List.mem_flatMap.mp hp
    rcases List.mem_cons.mp hp with rfl | hp
    · exact maskPiece_at C S P M h
    · obtain rfl := List.mem_singleton.mp hp
      exact headPiece_at C S P M h
  · have hR := R.isLt
    have hr := r.isLt
    by_cases hl : R.val % 128 < 80
    · refine ⟨headPiece (truncf .bf16 (turnedHead C S P ⟨R.val / 128, by omega⟩) bitsLt_bf16_f32) ⟨R.val / 128, by omega⟩, List.mem_flatMap.mpr ⟨⟨R.val / 128, by omega⟩, mem_heads _, List.mem_cons_of_mem _ (List.mem_singleton.mpr rfl)⟩, ?_⟩
      refine (Rect.mem_set_unit (inb := head_inb ⟨R.val / 128, by omega⟩)).mpr (Fin.forall_fin_two.mpr ⟨⟨?_, ?_⟩, ⟨Nat.zero_le _, ?_⟩⟩)
      · show 128 * (R.val / 128) ≤ R.val
        omega
      · show R.val < 128 * (R.val / 128) + 80
        omega
      · show r.val < 0 + 256
        omega
    · refine ⟨maskPiece M ⟨R.val / 128, by omega⟩, List.mem_flatMap.mpr ⟨⟨R.val / 128, by omega⟩, mem_heads _, List.mem_cons_self⟩, ?_⟩
      refine (Rect.mem_set_unit (inb := mask_inb ⟨R.val / 128, by omega⟩)).mpr (Fin.forall_fin_two.mpr ⟨⟨?_, ?_⟩, ⟨Nat.zero_le _, ?_⟩⟩)
      · show 128 * (R.val / 128) + 80 ≤ R.val
        omega
      · show R.val < 128 * (R.val / 128) + 80 + 48
        omega
      · show r.val < 0 + 256
        omega

/-- The keys' block at an index. -/
theorem keyPieces_at (r : Fin 256) (R : Fin 2048) :
    View.canon (keyPieces C S P M) (ix2 r R) = blockChannel C S P M R r := by
  refine View.canon_apply_of_pieces (Val := Elt Ideal) (S := S256x2048) (e := .bf16)
    (fun y : S256x2048.Idx => blockChannel C S P M (y 1) (y 0)) _ ?_ (ix2 r R) ?_
  · intro p hp
    obtain ⟨h, -, rfl⟩ := List.mem_map.mp hp
    exact keyPiece_at C S P M h
  · have hR := R.isLt
    have hr := r.isLt
    refine ⟨keyPiece (k0_pay1 M (turnedHead C S P ⟨R.val / 128, by omega⟩)) ⟨R.val / 128, by omega⟩,
      List.mem_map.mpr ⟨⟨R.val / 128, by omega⟩, mem_heads _, rfl⟩, ?_⟩
    refine (Rect.mem_set_unit (inb := key_inb ⟨R.val / 128, by omega⟩)).mpr (Fin.forall_fin_two.mpr ⟨⟨Nat.zero_le _, ?_⟩, ⟨?_, ?_⟩⟩)
    · show r.val < 0 + 256
      omega
    · show 128 * (R.val / 128) ≤ R.val
      omega
    · show R.val < 128 * (R.val / 128) + 128
      omega

end Blocks

/-! ## Queries and keys of a block -/

/-- Equal heads, cosines, sines and id channels give equal channels. -/
theorem channel_congr {t t' : Fin 16 → Fin 80 → EReal} {c c' s s' : Fin 80 → EReal} {k k' : Fin 48 → EReal} (R : Fin 2048)
    (ht : t = t') (hc : c = c') (hs : s = s') (hk : k = k') : channel t c s k R = channel t' c' s' k' R := by
  subst ht hc hs hk
  rfl

section Results

variable (x0 : Vec Ideal S256x1280 .bf16) (x1 : Vec Ideal S1x1280 .f32) (x2 : Vec Ideal S1280x3840 .fp8e4m3)
  (x3 x4 : Vec Ideal S1x3840 .f32) (x5 x6 : Vec Ideal S256x80 .f32) (x7 : Vec Ideal S1x256 .i32)

/-- The channels of a query's head. -/
theorem queryHead (h : Fin 16) (r : Fin 256) :
    (fun d : Fin 80 => partOf x0 x1 x2 x3 x4 0 (by decide) (ix2 ⟨80 * h.val + d.val, by omega⟩ r))
      = part (row x0 r) (row x1 0) (mat x2) (row x3 0) (row x4 0) 0 h := by
  funext d
  refine (partOf_at x0 x1 x2 x3 x4 0 (by decide) ⟨80 * h.val + d.val, by omega⟩ r).trans ?_
  unfold part
  refine congrArg (proj (row x0 r) (row x1 0) (mat x2) (row x3 0) (row x4 0)) ?_
  exact Fin.ext (by show 0 + (80 * h.val + d.val) = (0 : Fin 3).val * 1280 + h.val * 80 + d.val; omega)

/-- The channels of a key's head. -/
theorem keyHead (h : Fin 16) (r : Fin 256) :
    (fun d : Fin 80 => partOf x0 x1 x2 x3 x4 1280 (by decide) (ix2 ⟨80 * h.val + d.val, by omega⟩ r))
      = part (row x0 r) (row x1 0) (mat x2) (row x3 0) (row x4 0) 1 h := by
  funext d
  refine (partOf_at x0 x1 x2 x3 x4 1280 (by decide) ⟨80 * h.val + d.val, by omega⟩ r).trans ?_
  unfold part
  refine congrArg (proj (row x0 r) (row x1 0) (mat x2) (row x3 0) (row x4 0)) ?_
  exact Fin.ext (by show 1280 + (80 * h.val + d.val) = (1 : Fin 3).val * 1280 + h.val * 80 + d.val; simp only [Fin.val_one]; omega)

/-- The block put together from the 32 pieces of the queries, at one entry. -/
theorem queryBlock_at (R : Fin 2048) (r : Fin 256) :
    View.canon (queryPieces (k0_pay11 x5) (k0_pay12 x6) (partOf x0 x1 x2 x3 x4 0 (by decide)) (k0_pay10 x7)) (ix2 R r)
      = query (row x0 r) (row x1 0) (mat x2) (row x3 0) (row x4 0) (row x5 r) (row x6 r) (x7 (ix2 0 r)) R := by
  rw [queryPieces_at]
  unfold blockChannel query
  refine channel_congr R ?_ ?_ ?_ ?_
  · exact funext fun h => queryHead x0 x1 x2 x3 x4 h r
  · exact funext fun d => pay11_at x5 d r
  · exact funext fun d => pay12_at x6 d r
  · exact funext fun e => pay10_at x7 e r

/-- The block put together from the 16 pieces of the keys, at one entry. -/
theorem keyBlock_at (r : Fin 256) (R : Fin 2048) :
    View.canon (keyPieces (k0_pay11 x5) (k0_pay12 x6) (partOf x0 x1 x2 x3 x4 1280 (by decide)) (k0_pay9 x7)) (ix2 r R)
      = key (row x0 r) (row x1 0) (mat x2) (row x3 0) (row x4 0) (row x5 r) (row x6 r) (x7 (ix2 0 r)) R := by
  rw [keyPieces_at]
  unfold blockChannel key
  refine channel_congr R ?_ ?_ ?_ ?_
  · exact funext fun h => keyHead x0 x1 x2 x3 x4 h r
  · exact funext fun d => pay11_at x5 d r
  · exact funext fun d => pay12_at x6 d r
  · exact funext fun e => pay9_at x7 e r

/-- A head's squared norm is the row function's, when its channels are. -/
theorem headNorm_at (P : FVec Ideal S1280x256 .f32) (h : Fin 16) (r : Fin 256) (t : Fin 80 → EReal)
    (ht : (fun d : Fin 80 => P (ix2 ⟨80 * h.val + d.val, by omega⟩ r)) = t) :
    ∑ d, turnedHead (k0_pay11 x5) (k0_pay12 x6) P h (ix2 d r) * turnedHead (k0_pay11 x5) (k0_pay12 x6) P h (ix2 d r)
      = sqNorm t (row x5 r) (row x6 r) := by
  have hc : (fun d : Fin 80 => k0_pay11 x5 (ix2 d r)) = row x5 r := funext fun d => pay11_at x5 d r
  have hs : (fun d : Fin 80 => k0_pay12 x6 (ix2 d r)) = row x6 r := funext fun d => pay12_at x6 d r
  unfold sqNorm
  refine Finset.sum_congr rfl fun d _ => ?_
  rw [turnedHead_at, hc, hs, ht]

/-- The block of norms put together from its 32 rows, at one entry. -/
theorem normBlock_at (X : Vec Ideal S32x256 .f32) (L : List (View.Piece (Elt Ideal) S32x256 .f32)) (H : Fin 32) (r : Fin 256) :
    View.canon (normPieces X (k0_pay11 x5) (k0_pay12 x6) (partOf x0 x1 x2 x3 x4 0 (by decide)) (partOf x0 x1 x2 x3 x4 1280 (by decide)) ++ L) (ix2 H r)
      = max (X (ix2 H r)) (headNorm (row x0 r) (row x1 0) (mat x2) (row x3 0) (row x4 0) (row x5 r) (row x6 r) H) := by
  rw [normPieces_at]
  refine congrArg (max (X (ix2 H r))) ?_
  unfold blockNorm headNorm
  split
  · exact headNorm_at x5 x6 _ _ r _ (queryHead x0 x1 x2 x3 x4 _ r)
  · exact headNorm_at x5 x6 _ _ r _ (keyHead x0 x1 x2 x3 x4 _ r)

end Results

end Cert.QkvRows
-- ==== Proof.Qkv.Blocks.lean ====
module

public import Idealize.ShloMosaic.Lib.Pipeline.ValueKit
public import proofs.«01_k».proof.Proof.Gen.QkvIdeal.Value
public import proofs.«01_k».proof.Proof.Qkv.Pieces

@[expose] public section

/-! What the kernel's body leaves in each output's block, at the first grid point and at the others: at row `r` of the block,
the row functions of `Cert.QkvRow` at that row of the input blocks. The two kinds of point differ only in the norms, which
start from zero at the first point and from what was there at the others. -/

set_option maxRecDepth 16384

noncomputable section

namespace Cert.QkvRows

open Idealize.ShloMosaic Idealize.ShloMosaic.TcCoe Idealize.ShloMosaic.Tactic Idealize.SL Idealize.SL.Sem Cert.QkvIdeal Cert.QkvIdeal.Gen Cert.Rows Cert.QkvRow

variable (c : Dev nD) (i : grid0.Coords) (arg1 : Memref sig .tc .vmem S256x1280 .bf16) (harg1 : arg1.IsWhole)
  (arg2 : Memref sig .tc .vmem S1x1280 .f32) (harg2 : arg2.IsWhole) (arg3 : Memref sig .tc .vmem S1280x3840 .fp8e4m3)
  (harg3 : arg3.IsWhole) (arg4 : Memref sig .tc .vmem S1x3840 .f32) (harg4 : arg4.IsWhole)
  (arg5 : Memref sig .tc .vmem S1x3840 .f32) (harg5 : arg5.IsWhole) (arg6 : Memref sig .tc .vmem S256x80 .f32)
  (harg6 : arg6.IsWhole) (arg7 : Memref sig .tc .vmem S256x80 .f32) (harg7 : arg7.IsWhole)
  (arg8 : Memref sig .tc .vmem S1x256 .i32) (harg8 : arg8.IsWhole) (arg9 : Memref sig .tc .vmem S256x1280 .fp8e4m3)
  (harg9 : arg9.IsWhole) (arg10 : Memref sig .tc .vmem S1x256 .f32) (harg10 : arg10.IsWhole)
  (arg11 : Memref sig .tc .vmem S2048x256 .bf16) (harg11 : arg11.IsWhole)
  (arg12 : Memref sig .tc .vmem S256x2048 .bf16) (harg12 : arg12.IsWhole)
  (arg13 : Memref sig .tc .vmem S1280x256 .bf16) (harg13 : arg13.IsWhole) (arg14 : Memref sig .tc .vmem S32x256 .f32)
  (harg14 : arg14.IsWhole) (x0 : Vec Ideal S256x1280 .bf16) (x1 : Vec Ideal S1x1280 .f32)
  (x2 : Vec Ideal S1280x3840 .fp8e4m3) (x3 : Vec Ideal S1x3840 .f32) (x4 : Vec Ideal S1x3840 .f32)
  (x5 : Vec Ideal S256x80 .f32) (x6 : Vec Ideal S256x80 .f32) (x7 : Vec Ideal S1x256 .i32)

/-- The block of output 8 (the codes) at the first point, as the body stores it. -/
theorem outA8_eq (hc0 : cond0_0 i) : out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
    = k0_pay6 x0 x1 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp (disch := decide) only [View.ld_unit_lit]
  exact View.canon_cons_unit_lit _ _ [] (by decide)

/-- Output 8, at the first point: the codes of the normalised rows. -/
theorem outA8_at (hc0 : cond0_0 i) (r : Fin 256) (j : Fin 1280) : out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r j)
    = code (rms (row x0 r) (row x1 0)) j := by
  rw [outA8_eq]
  exact pay6_at x0 x1 r j

/-- The block of output 9 (the scales) at the first point, as the body stores it. -/
theorem outA9_eq (hc0 : cond0_0 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
    = k0_pay7 x0 x1 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp (disch := decide) only [View.ld_unit_lit]
  exact View.canon_cons_unit_lit _ _ [] (by decide)

/-- Output 9, at the first point: their scales. -/
theorem outA9_at (hc0 : cond0_0 i) (r : Fin 256) : out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 0 r)
    = scale (rms (row x0 r) (row x1 0)) := by
  rw [outA9_eq]
  exact pay7_at x0 x1 r

/-- The block of output 10 (the queries) at the first point, as the body stores it. -/
theorem outA10_eq (hc0 : cond0_0 i) : out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
    = View.canon (queryPieces (k0_pay11 x5) (k0_pay12 x6) (partOf x0 x1 x2 x3 x4 0 (by decide)) (k0_pay10 x7)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp (disch := decide) only [View.ld_unit_lit]
  rfl

/-- Output 10, at the first point: the queries. -/
theorem outA10_at (hc0 : cond0_0 i) (R : Fin 2048) (r : Fin 256) : out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 R r)
    = query (row x0 r) (row x1 0) (mat x2) (row x3 0) (row x4 0) (row x5 r) (row x6 r) (x7 (ix2 0 r)) R := by
  rw [outA10_eq]
  exact queryBlock_at x0 x1 x2 x3 x4 x5 x6 x7 R r

/-- The block of output 11 (the keys) at the first point, as the body stores it. -/
theorem outA11_eq (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
    = View.canon (keyPieces (k0_pay11 x5) (k0_pay12 x6) (partOf x0 x1 x2 x3 x4 1280 (by decide)) (k0_pay9 x7)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp (disch := decide) only [View.ld_unit_lit]
  rfl

/-- Output 11, at the first point: the keys. -/
theorem outA11_at (hc0 : cond0_0 i) (r : Fin 256) (R : Fin 2048) : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r R)
    = key (row x0 r) (row x1 0) (mat x2) (row x3 0) (row x4 0) (row x5 r) (row x6 r) (x7 (ix2 0 r)) R := by
  rw [outA11_eq]
  exact keyBlock_at x0 x1 x2 x3 x4 x5 x6 x7 r R

/-- The block of output 12 (the values) at the first point, as the body stores it. -/
theorem outA12_eq (hc0 : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
    = k0_pay2 (k0_pay5 x0 x1) (k0_pay6 x0 x1) (cutW x2 2560 (by decide)) (cutR x3 2560 (by decide)) (cutR x4 2560 (by decide)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  simp (disch := decide) only [View.ld_unit_lit]
  exact View.canon_cons_unit_lit _ _ [] (by decide)

/-- Output 12, at the first point: the values. -/
theorem outA12_at (hc0 : cond0_0 i) (j : Fin 1280) (r : Fin 256) : out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 j r)
    = value (row x0 r) (row x1 0) (mat x2) (row x3 0) (row x4 0) j := by
  rw [outA12_eq]
  exact valueOf_at x0 x1 x2 x3 x4 j r

/-- The block of output 13 (the norms) at the first point, as the body stores it over the zeros it stored first. -/
theorem outA13_eq (hc0 : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
    = View.canon (normPieces (k0_pay3 (F := Ideal)) (k0_pay11 x5) (k0_pay12 x6) (partOf x0 x1 x2 x3 x4 0 (by decide)) (partOf x0 x1 x2 x3 x4 1280 (by decide)) ++ [zeroPiece]) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  simp (disch := decide) only [↓View.readCov_skip, ↓View.readCov_fill]
  simp only [View.readAt_eq_ld, harg1.read_unread, harg2.read_unread, harg3.read_unread, harg4.read_unread, harg5.read_unread, harg6.read_unread, harg7.read_unread, harg8.read_unread]
  simp (disch := decide) only [View.ld_unit_lit]
  rfl

/-- Output 13, at the first point: the larger of zero and the block's squared norm. -/
theorem outA13_at (hc0 : cond0_0 i) (H : Fin 32) (r : Fin 256) : out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 H r)
    = max 0 (headNorm (row x0 r) (row x1 0) (mat x2) (row x3 0) (row x4 0) (row x5 r) (row x6 r) H) := by
  rw [outA13_eq]
  refine (normBlock_at x0 x1 x2 x3 x4 x5 x6 (k0_pay3 (F := Ideal)) _ H r).trans (congrArg (fun z => max z _) ?_)
  pointwise [k0_pay3]

/-- The block of output 8 (the codes) at the other points, as the body stores it. -/
theorem outB8_eq (hc0 : ¬cond0_0 i) (xo13 : Vec Ideal S32x256 .f32) : out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13
    = k0_pay6 x0 x1 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun0_B
  dsimp only
  sl_unfold_words
  simp only [View.readAt_eq_ld, harg1.read_unread, harg2.read_unread, harg3.read_unread, harg4.read_unread, harg5.read_unread, harg6.read_unread, harg7.read_unread, harg8.read_unread]
  simp (disch := decide) only [View.ld_unit_lit]
  exact View.canon_cons_unit_lit _ _ [] (by decide)

/-- Output 8, at the other points: the codes of the normalised rows. -/
theorem outB8_at (hc0 : ¬cond0_0 i) (xo13 : Vec Ideal S32x256 .f32) (r : Fin 256) (j : Fin 1280) : out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 (ix2 r j)
    = code (rms (row x0 r) (row x1 0)) j := by
  rw [outB8_eq]
  exact pay6_at x0 x1 r j

/-- The block of output 9 (the scales) at the other points, as the body stores it. -/
theorem outB9_eq (hc0 : ¬cond0_0 i) (xo13 : Vec Ideal S32x256 .f32) : out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13
    = k0_pay7 x0 x1 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun0_B
  dsimp only
  sl_unfold_words
  simp only [View.readAt_eq_ld, harg1.read_unread, harg2.read_unread, harg3.read_unread, harg4.read_unread, harg5.read_unread, harg6.read_unread, harg7.read_unread, harg8.read_unread]
  simp (disch := decide) only [View.ld_unit_lit]
  exact View.canon_cons_unit_lit _ _ [] (by decide)

/-- Output 9, at the other points: their scales. -/
theorem outB9_at (hc0 : ¬cond0_0 i) (xo13 : Vec Ideal S32x256 .f32) (r : Fin 256) : out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 (ix2 0 r)
    = scale (rms (row x0 r) (row x1 0)) := by
  rw [outB9_eq]
  exact pay7_at x0 x1 r

/-- The block of output 10 (the queries) at the other points, as the body stores it. -/
theorem outB10_eq (hc0 : ¬cond0_0 i) (xo13 : Vec Ideal S32x256 .f32) : out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13
    = View.canon (queryPieces (k0_pay11 x5) (k0_pay12 x6) (partOf x0 x1 x2 x3 x4 0 (by decide)) (k0_pay10 x7)) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun0_B
  dsimp only
  sl_unfold_words
  simp only [View.readAt_eq_ld, harg1.read_unread, harg2.read_unread, harg3.read_unread, harg4.read_unread, harg5.read_unread, harg6.read_unread, harg7.read_unread, harg8.read_unread]
  simp (disch := decide) only [View.ld_unit_lit]
  rfl

/-- Output 10, at the other points: the queries. -/
theorem outB10_at (hc0 : ¬cond0_0 i) (xo13 : Vec Ideal S32x256 .f32) (R : Fin 2048) (r : Fin 256) : out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 (ix2 R r)
    = query (row x0 r) (row x1 0) (mat x2) (row x3 0) (row x4 0) (row x5 r) (row x6 r) (x7 (ix2 0 r)) R := by
  rw [outB10_eq]
  exact queryBlock_at x0 x1 x2 x3 x4 x5 x6 x7 R r

/-- The block of output 11 (the keys) at the other points, as the body stores it. -/
theorem outB11_eq (hc0 : ¬cond0_0 i) (xo13 : Vec Ideal S32x256 .f32) : out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13
    = View.canon (keyPieces (k0_pay11 x5) (k0_pay12 x6) (partOf x0 x1 x2 x3 x4 1280 (by decide)) (k0_pay9 x7)) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun0_B
  dsimp only
  sl_unfold_words
  simp only [View.readAt_eq_ld, harg1.read_unread, harg2.read_unread, harg3.read_unread, harg4.read_unread, harg5.read_unread, harg6.read_unread, harg7.read_unread, harg8.read_unread]
  simp (disch := decide) only [View.ld_unit_lit]
  rfl

/-- Output 11, at the other points: the keys. -/
theorem outB11_at (hc0 : ¬cond0_0 i) (xo13 : Vec Ideal S32x256 .f32) (r : Fin 256) (R : Fin 2048) : out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 (ix2 r R)
    = key (row x0 r) (row x1 0) (mat x2) (row x3 0) (row x4 0) (row x5 r) (row x6 r) (x7 (ix2 0 r)) R := by
  rw [outB11_eq]
  exact keyBlock_at x0 x1 x2 x3 x4 x5 x6 x7 r R

/-- The block of output 12 (the values) at the other points, as the body stores it. -/
theorem outB12_eq (hc0 : ¬cond0_0 i) (xo13 : Vec Ideal S32x256 .f32) : out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13
    = k0_pay2 (k0_pay5 x0 x1) (k0_pay6 x0 x1) (cutW x2 2560 (by decide)) (cutR x3 2560 (by decide)) (cutR x4 2560 (by decide)) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun0_B
  dsimp only
  sl_unfold_words
  simp only [View.readAt_eq_ld, harg1.read_unread, harg2.read_unread, harg3.read_unread, harg4.read_unread, harg5.read_unread, harg6.read_unread, harg7.read_unread, harg8.read_unread]
  simp (disch := decide) only [View.ld_unit_lit]
  exact View.canon_cons_unit_lit _ _ [] (by decide)

/-- Output 12, at the other points: the values. -/
theorem outB12_at (hc0 : ¬cond0_0 i) (xo13 : Vec Ideal S32x256 .f32) (j : Fin 1280) (r : Fin 256) : out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 (ix2 j r)
    = value (row x0 r) (row x1 0) (mat x2) (row x3 0) (row x4 0) j := by
  rw [outB12_eq]
  exact valueOf_at x0 x1 x2 x3 x4 j r

/-- The block of output 13 (the norms) at the other points, as the body stores it over what was there. -/
theorem outB13_eq (hc0 : ¬cond0_0 i) (xo13 : Vec Ideal S32x256 .f32) : out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13
    = View.canon (normPieces xo13 (k0_pay11 x5) (k0_pay12 x6) (partOf x0 x1 x2 x3 x4 0 (by decide)) (partOf x0 x1 x2 x3 x4 1280 (by decide)) ++ []) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13)]
  unfold kernelRun0_B
  dsimp only
  sl_unfold_words
  simp only [View.readAt_eq_ld, harg1.read_unread, harg2.read_unread, harg3.read_unread, harg4.read_unread, harg5.read_unread, harg6.read_unread, harg7.read_unread, harg8.read_unread, harg14.read_unread]
  simp (disch := decide) only [View.ld_unit_lit]
  rfl

/-- Output 13, at the other points: the larger of what was there and the block's squared norm. -/
theorem outB13_at (hc0 : ¬cond0_0 i) (xo13 : Vec Ideal S32x256 .f32) (H : Fin 32) (r : Fin 256) : out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo13 (ix2 H r)
    = max (xo13 (ix2 H r)) (headNorm (row x0 r) (row x1 0) (mat x2) (row x3 0) (row x4 0) (row x5 r) (row x6 r) H) := by
  rw [outB13_eq]
  exact normBlock_at x0 x1 x2 x3 x4 x5 x6 xo13 [] H r

end Cert.QkvRows
-- ==== Proof.Qkv.RefRows.lean ====
module

public import Idealize.ShloMosaic.Lib.Pointwise
public import Idealize.ShloMosaic.Lib.Pipeline.ValueKit
public import proofs.«01_k».proof.Proof.Gen.QkvRefIdeal.Frame
public import proofs.«01_k».proof.Proof.Qkv.Rows

@[expose] public section

/-! The reference's named values, read at one index: each is the row function of `Cert.QkvRow` at that row. -/

set_option maxRecDepth 16384

noncomputable section

namespace Cert.QkvRefRows

open Idealize.ShloMosaic Cert.QkvRefIdeal Cert.QkvRefIdeal.Gen Cert.Rows Cert.QkvRow

/-- The scale from the largest sizes. -/
theorem scaleOf_at (v : FVec Ideal S8192 .f32) (i : Fin 8192) :
    select (cmpf .oeq v (broadcast S8192 (Scalar.ofBits .f32 0x00000000#32 : Ideal .f32)))
      (broadcast S8192 (Scalar.ofBits .f32 0x3F800000#32 : Ideal .f32))
      (divf v (broadcast S8192 (Scalar.ofBits .f32 0x43E00000#32 : Ideal .f32))) (ix1 i) = scaleOf (v (ix1 i)) := by
  pointwise
  rfl

/-- The largest size in the rows of a 1280-wide array. -/
theorem rowMax_1280 (v : FVec Ideal S8192x1280 .f32) (i : Fin 8192) :
    multiReduction .maximumf [1] S8192 (absf v) 0xFF800000#32 reduces_S8192x1280_S8192 (.inl rfl) rfl (ix1 i)
      = rowMax (row v i) := by
  pointwise
  rfl

/-- The codes of a 1280-wide array under its scales. -/
theorem code_1280 (v : FVec Ideal S8192x1280 .f32) (s : FVec Ideal S8192 .f32) (i : Fin 8192) (j : Fin 1280) :
    (truncf .fp8e4m3 (minimumf (broadcast S8192x1280 (Scalar.ofBits .f32 0x43E00000#32 : Ideal .f32))
      (maximumf (broadcast S8192x1280 (Scalar.ofBits .f32 0xC3E00000#32 : Ideal .f32))
        (divf v (broadcastTo S8192x1280 (shapeCast S8192x1 s shapeCasts_S8192_S8192x1) broadcasts_S8192x1_S8192x1280))))
      bitsLt_fp8e4m3_f32 : FVec Ideal S8192x1280 .fp8e4m3) (ix2 i j) = codeOf (v (ix2 i j)) (s (ix1 i)) := by
  pointwise
  rfl

/-- The norm. -/
theorem pay2_at (v0 : Vec Ideal S8192x1280 .bf16) (v2 : Vec Ideal S1280 .f32) (i : Fin 8192) (j : Fin 1280) :
    k0_pay2 v0 v2 (ix2 i j) = rms (row v0 i) (vec v2) j := by
  pointwise [k0_pay2]
  rfl

/-- A row of the normalised input. -/
theorem row_pay2 (v0 : Vec Ideal S8192x1280 .bf16) (v2 : Vec Ideal S1280 .f32) (i : Fin 8192) :
    row (k0_pay2 v0 v2) i = rms (row v0 i) (vec v2) := funext (pay2_at v0 v2 i)

/-- The scales. -/
theorem pay3_at (v0 : Vec Ideal S8192x1280 .bf16) (v2 : Vec Ideal S1280 .f32) (i : Fin 8192) :
    k0_pay3 v0 v2 (ix1 i) = scale (rms (row v0 i) (vec v2)) :=
  (scaleOf_at _ i).trans (congrArg scaleOf ((rowMax_1280 (k0_pay2 v0 v2) i).trans (congrArg rowMax (row_pay2 v0 v2 i))))

/-- The codes. -/
theorem pay4_at (v0 : Vec Ideal S8192x1280 .bf16) (v2 : Vec Ideal S1280 .f32) (i : Fin 8192) (j : Fin 1280) :
    k0_pay4 v0 v2 (ix2 i j) = code (rms (row v0 i) (vec v2)) j :=
  (code_1280 (k0_pay2 v0 v2) (k0_pay3 v0 v2) i j).trans (by rw [pay2_at, pay3_at]; rfl)

/-- A row of the codes. -/
theorem row_pay4 (v0 : Vec Ideal S8192x1280 .bf16) (v2 : Vec Ideal S1280 .f32) (i : Fin 8192) :
    row (k0_pay4 v0 v2) i = code (rms (row v0 i) (vec v2)) := funext (pay4_at v0 v2 i)

/-- The scales as one row. -/
theorem pay13_at (v : FVec Ideal S8192 .f32) (i : Fin 8192) : k0_pay13 v (ix2 0 i) = v (ix1 i) := by
  pointwise [k0_pay13]

/-- The product under both scales, without the bias. -/
theorem prod_at (c : FVec Ideal S8192x1280 .fp8e4m3) (s : FVec Ideal S8192 .f32) (w : FVec Ideal S1280x3840 .fp8e4m3)
    (sw : FVec Ideal S3840 .f32) (i : Fin 8192) (j : Fin 3840) :
    mulf (mulf (matmul dot_S8192x1280_S1280x3840_S8192x3840_1_0_0_1_n_n none c w (constant S8192x3840 .f32 0x00000000#32))
        (broadcastTo S8192x3840 (shapeCast S8192x1 s shapeCasts_S8192_S8192x1) broadcasts_S8192x1_S8192x3840))
      (broadcastTo S8192x3840 (shapeCast S1x3840 sw shapeCasts_S3840_S1x3840) broadcasts_S1x3840_S8192x3840) (ix2 i j)
      = (∑ k, row c i k * mat w k j) * s (ix1 i) * vec sw j := by
  pointwise

/-- The projection, split into its three parts and their heads. -/
theorem pay7_at (v41 : FVec Ideal S8192x3840 .f32) (v34 : FVec Ideal S3840 .f32) (i : Fin 8192) (p : Fin 3) (h : Fin 16) (d : Fin 80) :
    k0_pay7 v41 (k0_pay6 v34) (ix4 i p h d) = v41 (ix2 i ⟨p.val * 1280 + h.val * 80 + d.val, by omega⟩)
      + vec v34 ⟨p.val * 1280 + h.val * 80 + d.val, by omega⟩ := by
  pointwise [k0_pay7, k0_pay6]

/-- The queries' heads. -/
theorem part0_at (v : FVec Ideal S8192x3x16x80 .f32) (i : Fin 8192) (h : Fin 16) (d : Fin 80) :
    shapeCast S8192x16x80 (extractStridedSlice S8192x1x16x80 ![0, 0, 0, 0] v slices_S8192x3x16x80_o0_0_0_0_S8192x1x16x80)
      shapeCasts_S8192x1x16x80_S8192x16x80 (ix3 i h d) = v (ix4 i 0 h d) := by
  pointwise

/-- The keys' heads. -/
theorem part1_at (v : FVec Ideal S8192x3x16x80 .f32) (i : Fin 8192) (h : Fin 16) (d : Fin 80) :
    shapeCast S8192x16x80 (extractStridedSlice S8192x1x16x80 ![0, 1, 0, 0] v slices_S8192x3x16x80_o0_1_0_0_S8192x1x16x80)
      shapeCasts_S8192x1x16x80_S8192x16x80 (ix3 i h d) = v (ix4 i 1 h d) := by
  pointwise

/-- The values' heads. -/
theorem part2_at (v : FVec Ideal S8192x3x16x80 .f32) (i : Fin 8192) (h : Fin 16) (d : Fin 80) :
    shapeCast S8192x16x80 (extractStridedSlice S8192x1x16x80 ![0, 2, 0, 0] v slices_S8192x3x16x80_o0_2_0_0_S8192x1x16x80)
      shapeCasts_S8192x1x16x80_S8192x16x80 (ix3 i h d) = v (ix4 i 2 h d) := by
  pointwise

/-- The rotary positions. -/
theorem rot_at (t : FVec Ideal S8192x16x80 .f32) (c s : FVec Ideal S8192x80 .f32) (i : Fin 8192) (h : Fin 16) (d : Fin 80) :
    (truncf .bf16 (addf (mulf t (broadcastTo S8192x16x80 (shapeCast S8192x1x80 c shapeCasts_S8192x80_S8192x1x80) broadcasts_S8192x1x80_S8192x16x80))
      (mulf (concatenate S8192x16x80 2 [⟨S8192x16x40, subf (broadcast S8192x16x40 (Scalar.ofBits .f32 0x00000000#32 : Ideal .f32)) (extractStridedSlice S8192x16x40 ![0, 0, 40] t slices_S8192x16x80_o0_0_40_S8192x16x40)⟩,
          ⟨S8192x16x40, extractStridedSlice S8192x16x40 ![0, 0, 0] t slices_S8192x16x80_o0_0_0_S8192x16x40⟩] concatenates_S8192x16x40_S8192x16x40_S8192x16x80_d2)
        (broadcastTo S8192x16x80 (shapeCast S8192x1x80 s shapeCasts_S8192x80_S8192x1x80) broadcasts_S8192x1x80_S8192x16x80)))
      bitsLt_bf16_f32 : FVec Ideal S8192x16x80 .bf16) (ix3 i h d) = rot (fun d => t (ix3 i h d)) (row c i) (row s i) d := by
  pointwise
  unfold rot
  simp only [zero_sub]

/-- The id channels' test. -/
theorem pay14_at (v : Vec Ideal S8192 .i32) (i : Fin 8192) (e : Fin 48) :
    (k0_pay14 v v (ix2 i e) = 1#1) ↔ hit (v (ix1 i)) e := by
  pointwise [k0_pay14]
  unfold hit
  split
  · exact IntOp.cmpi_eq
  · exact IntOp.cmpi_eq

/-- The channels of a head with its id channels behind, and the heads side by side. -/
theorem join_at (t : FVec Ideal S8192x16x80 .bf16) (m : FVec Ideal S8192x48 .bf16) (i : Fin 8192) (R : Fin 2048) :
    shapeCast S8192x2048 (concatenate S8192x16x128 2 [⟨S8192x16x80, t⟩,
      ⟨S8192x16x48, broadcastTo S8192x16x48 (shapeCast S8192x1x48 (shapeCast S8192x1x48 m shapeCasts_S8192x48_S8192x1x48) shapeCasts_S8192x1x48_S8192x1x48) broadcasts_S8192x1x48_S8192x16x48⟩]
      concatenates_S8192x16x80_S8192x16x48_S8192x16x128_d2) shapeCasts_S8192x16x128_S8192x2048 (ix2 i R)
    = if h : R.val % 128 < 80 then t (ix3 i ⟨R.val / 128, by omega⟩ ⟨R.val % 128, h⟩) else m (ix2 i ⟨R.val % 128 - 80, by omega⟩) := by
  pointwise

/-- The queries' id channels. -/
theorem mask_at (yes no : BitVec 32) (v : Vec Ideal S8192 .i32) (i : Fin 8192) (e : Fin 48) :
    (truncf .bf16 (select (k0_pay14 v v) (broadcast S8192x48 (Scalar.ofBits .f32 yes : Ideal .f32))
      (broadcast S8192x48 (Scalar.ofBits .f32 no : Ideal .f32))) bitsLt_bf16_f32 : FVec Ideal S8192x48 .bf16) (ix2 i e)
      = idChannel (Ideal.ofBits .f32 yes) (Ideal.ofBits .f32 no) (v (ix1 i)) e :=
  select_hit _ _ _ _ _ (pay14_at v i e)

/-- The transpose of the queries. -/
theorem turn_at (t : FVec Ideal S8192x2048 .bf16) (R : Fin 2048) (i : Fin 8192) :
    transpose S2048x8192 [1, 0] t transposes_S8192x2048_p1_0_S2048x8192 (ix2 R i) = t (ix2 i R) := by
  pointwise

/-- The transpose of the values, heads side by side. -/
theorem pay17_at (t : FVec Ideal S8192x16x80 .bf16) (j : Fin 1280) (i : Fin 8192) :
    k0_pay17 t (ix2 j i) = t (ix3 i ⟨j.val / 80, by omega⟩ ⟨j.val % 80, by omega⟩) := by
  pointwise [k0_pay17]

section Parts

variable (v : FVec Ideal S8192x3840 .f32) (b : FVec Ideal S3840 .f32) (c s : FVec Ideal S8192x80 .f32)

/-- A head's channels of one part of a projection whose bias has yet to be added. -/
def partOf (i : Fin 8192) (p : Fin 3) (h : Fin 16) (d : Fin 80) : EReal :=
  v (ix2 i ⟨p.val * 1280 + h.val * 80 + d.val, by omega⟩) + vec b ⟨p.val * 1280 + h.val * 80 + d.val, by omega⟩

/-- A turned query at one channel. -/
theorem pay10_at (i : Fin 8192) (h : Fin 16) (d : Fin 80) :
    k0_pay10 v (k0_pay6 b) c s (ix3 i h d) = rot (partOf v b i 0 h) (row c i) (row s i) d :=
  (rot_at _ c s i h d).trans (congrArg (fun t => rot t (row c i) (row s i) d)
    (funext fun d => (part0_at (k0_pay7 v (k0_pay6 b)) i h d).trans (pay7_at v b i 0 h d)))

/-- A turned key at one channel. -/
theorem pay11_at (i : Fin 8192) (h : Fin 16) (d : Fin 80) :
    k0_pay11 v (k0_pay6 b) c s (ix3 i h d) = rot (partOf v b i 1 h) (row c i) (row s i) d :=
  (rot_at _ c s i h d).trans (congrArg (fun t => rot t (row c i) (row s i) d)
    (funext fun d => (part1_at (k0_pay7 v (k0_pay6 b)) i h d).trans (pay7_at v b i 1 h d)))

/-- A value at one channel. -/
theorem pay12_at (i : Fin 8192) (h : Fin 16) (d : Fin 80) :
    k0_pay12 v (k0_pay6 b) (ix3 i h d) = partOf v b i 2 h d :=
  (part2_at (k0_pay7 v (k0_pay6 b)) i h d).trans (pay7_at v b i 2 h d)

end Parts

/-- The squared norms of the heads, the tokens in 32 groups of 256. -/
theorem squares_at (t : FVec Ideal S8192x16x80 .f32) (k : Fin 32) (l : Fin 256) (h : Fin 16) :
    shapeCast S32x256x16 (multiReduction .add [2] S8192x16 (mulf t t) 0x00000000#32 reduces_S8192x16x80_S8192x16 (.inl rfl) rfl)
      shapeCasts_S8192x16_S32x256x16 (ix3 k l h)
      = ∑ d, t (ix3 ⟨k.val * 256 + l.val, by omega⟩ h d) * t (ix3 ⟨k.val * 256 + l.val, by omega⟩ h d) := by
  pointwise

/-- The largest over the groups, with the heads first. -/
theorem largest_at (v : FVec Ideal S32x256x16 .f32) (h : Fin 16) (l : Fin 256) :
    transpose S16x256 [1, 0] (multiReduction .maximumf [0] S256x16 v 0xFF800000#32 reduces_S32x256x16_S256x16 (.inl rfl) rfl)
      transposes_S256x16_p1_0_S16x256 (ix2 h l) = largest fun k => v (ix3 k l h) := by
  pointwise
  rfl

/-- The queries' heads and then the keys'. -/
theorem stack_at (a b : FVec Ideal S16x256 .f32) (h : Fin 32) (l : Fin 256) :
    concatenate S32x256 0 [⟨S16x256, a⟩, ⟨S16x256, b⟩] concatenates_S16x256_S16x256_S32x256_d0 (ix2 h l)
      = if k : h.val < 16 then a (ix2 ⟨h.val, k⟩ l) else b (ix2 ⟨h.val - 16, by omega⟩ l) := by
  pointwise

section Results

variable (a0 : Vec Ideal S8192x1280 .bf16) (a1 : Vec Ideal S1280 .f32) (a2 : Vec Ideal S1280x3840 .fp8e4m3)
  (a3 a4 : Vec Ideal S3840 .f32) (a5 a6 : Vec Ideal S8192x80 .f32) (a7 : Vec Ideal S8192 .i32)

/-- The projection without its bias. -/
theorem pay5_at (i : Fin 8192) (j : Fin 3840) : k0_pay5 a0 a1 a2 a3 (ix2 i j)
    = (∑ k, code (rms (row a0 i) (vec a1)) k * mat a2 k j) * scale (rms (row a0 i) (vec a1)) * vec a3 j :=
  (prod_at (k0_pay4 a0 a1) (k0_pay3 a0 a1) a2 a3 i j).trans (by rw [row_pay4, pay3_at])

/-- One head of the projected row, as the row function. -/
theorem part_eq (i : Fin 8192) (p : Fin 3) (h : Fin 16) :
    partOf (k0_pay5 a0 a1 a2 a3) a4 i p h = part (row a0 i) (vec a1) (mat a2) (vec a3) (vec a4) p h := by
  funext d
  unfold partOf part proj linear
  rw [pay5_at]

/-- The codes as the reference's array. -/
abbrev G8 : Vec Ideal S8192x1280 .fp8e4m3 := k0_pay4 a0 a1

/-- The scales as the reference's array. -/
abbrev G9 : Vec Ideal S1x8192 .f32 := k0_pay13 (k0_pay3 a0 a1)

/-- The queries as the reference's array. -/
abbrev G10 : Vec Ideal S2048x8192 .bf16 := k0_pay15 (k0_pay10 (k0_pay5 a0 a1 a2 a3) (k0_pay6 a4) a5 a6) a7 a7

/-- The keys as the reference's array. -/
abbrev G11 : Vec Ideal S8192x2048 .bf16 := k0_pay16 (k0_pay11 (k0_pay5 a0 a1 a2 a3) (k0_pay6 a4) a5 a6) a7 a7

/-- The values as the reference's array. -/
abbrev G12 : Vec Ideal S1280x8192 .bf16 := k0_pay17 (k0_pay12 (k0_pay5 a0 a1 a2 a3) (k0_pay6 a4))

/-- The largest squared norms as the reference's array. -/
abbrev G13 : Vec Ideal S32x256 .f32 :=
  k0_pay1 (k0_pay9 (k0_pay5 a0 a1 a2 a3) (k0_pay6 a4) a5 a6) (k0_pay18 (k0_pay8 (k0_pay5 a0 a1 a2 a3) (k0_pay6 a4) a5 a6))

/-- The codes at one entry. -/
theorem G8_at (i : Fin 8192) (j : Fin 1280) : G8 a0 a1 (ix2 i j) = code (rms (row a0 i) (vec a1)) j :=
  pay4_at a0 a1 i j

/-- The scale of one row. -/
theorem G9_at (i : Fin 8192) : G9 a0 a1 (ix2 0 i) = scale (rms (row a0 i) (vec a1)) :=
  (pay13_at (k0_pay3 a0 a1) i).trans (pay3_at a0 a1 i)

/-- The queries at one entry. -/
theorem G10_at (R : Fin 2048) (i : Fin 8192) : G10 a0 a1 a2 a3 a4 a5 a6 a7 (ix2 R i)
    = query (row a0 i) (vec a1) (mat a2) (vec a3) (vec a4) (row a5 i) (row a6 i) (a7 (ix1 i)) R := by
  refine (turn_at _ R i).trans ((join_at _ _ i R).trans ?_)
  unfold query channel
  split
  · rw [pay10_at, part_eq]
  · exact mask_at _ _ a7 i _

/-- The keys at one entry. -/
theorem G11_at (i : Fin 8192) (R : Fin 2048) : G11 a0 a1 a2 a3 a4 a5 a6 a7 (ix2 i R)
    = key (row a0 i) (vec a1) (mat a2) (vec a3) (vec a4) (row a5 i) (row a6 i) (a7 (ix1 i)) R := by
  refine (join_at _ _ i R).trans ?_
  unfold key channel
  split
  · rw [pay11_at, part_eq]
  · exact mask_at _ _ a7 i _

/-- The values at one entry. -/
theorem G12_at (j : Fin 1280) (i : Fin 8192) : G12 a0 a1 a2 a3 a4 (ix2 j i)
    = value (row a0 i) (vec a1) (mat a2) (vec a3) (vec a4) j := by
  refine (pay17_at _ j i).trans ?_
  rw [pay12_at, part_eq]
  unfold part value
  congr 2
  show 2 * 1280 + j.val / 80 * 80 + j.val % 80 = 2560 + j.val
  omega

/-- The largest squared norm of a head among the tokens of one lane. -/
theorem G13_at (h : Fin 32) (l : Fin 256) : G13 a0 a1 a2 a3 a4 a5 a6 (ix2 h l)
    = largest fun k : Fin 32 => headNorm (row a0 ⟨k.val * 256 + l.val, by omega⟩) (vec a1) (mat a2) (vec a3) (vec a4)
        (row a5 ⟨k.val * 256 + l.val, by omega⟩) (row a6 ⟨k.val * 256 + l.val, by omega⟩) h := by
  refine (stack_at _ _ h l).trans ?_
  split
  · next hk =>
    simp only [headNorm_queries _ _ _ _ _ _ _ h hk]
    refine (largest_at _ _ l).trans (congrArg largest (funext fun k => (squares_at _ k l _).trans ?_))
    unfold sqNorm
    rw [← part_eq]
    exact Finset.sum_congr rfl fun d _ => congrArg (fun e => e * e) (pay10_at _ _ _ _ _ _ d)
  · next hk =>
    simp only [headNorm_keys _ _ _ _ _ _ _ h hk]
    refine (largest_at _ _ l).trans (congrArg largest (funext fun k => (squares_at _ k l _).trans ?_))
    unfold sqNorm
    rw [← part_eq]
    exact Finset.sum_congr rfl fun d _ => congrArg (fun e => e * e) (pay11_at _ _ _ _ _ _ d)

end Results

end Cert.QkvRefRows
-- ==== Proof.Qkv.RefValue.lean ====
module

public import Idealize.ShloMosaic.Lib.Pipeline.ValueKit
public import Idealize.ShloMosaic.Lib.Claim
public import proofs.«01_k».proof.Proof.Gen.QkvRefIdeal.Frame
public import proofs.«01_k».proof.Proof.Qkv.RefRows

@[expose] public section

/-! The reference's run: it has one grid point, at which every window's block is its whole array, so each result array
is the reference's named value of the argument arrays. -/

set_option maxRecDepth 16384

noncomputable section

namespace Cert.QkvRefRows

open Idealize.ShloMosaic Idealize.ShloMosaic.TcCoe Idealize.ShloMosaic.Tactic Idealize.SL.Sem Cert.QkvRefIdeal Cert.QkvRefIdeal.Gen Cert.Rows Cert.QkvRow

/-- An index of a matrix is a row and a column. -/
theorem exists_ix2 {n m : ℕ} (x : (⟨2, ![n, m]⟩ : Shape).Idx) : ∃ (r : Fin n) (l : Fin m), x = ix2 r l :=
  ⟨x 0, x 1, by funext a; fin_cases a <;> rfl⟩

/-- An index of a vector is one number. -/
theorem exists_ix1 {n : ℕ} (x : (⟨1, ![n]⟩ : Shape).Idx) : ∃ r : Fin n, x = ix1 r :=
  ⟨x 0, by funext a; fin_cases a; rfl⟩

/-! ## What the body leaves, of any contents -/

section Body

variable (a0 : Vec Ideal S8192x1280 .bf16) (a1 : Vec Ideal S1280 .f32) (a2 : Vec Ideal S1280x3840 .fp8e4m3)
  (a3 a4 : Vec Ideal S3840 .f32) (a5 a6 : Vec Ideal S8192x80 .f32) (a7 : Vec Ideal S8192 .i32)

/-- What the body stores as output 8 (the codes). -/
theorem out8_eq : out0_8 a0 a1 a2 a3 a4 a5 a6 a7 = G8 a0 a1 := by
  unfold out0_8
  simp (disch := decide) only [View.ld_unit_lit]
  exact View.canon_cons_unit_lit _ _ [] (by decide)

/-- What the body stores as output 9 (the scales). -/
theorem out9_eq : out0_9 a0 a1 a2 a3 a4 a5 a6 a7 = G9 a0 a1 := by
  unfold out0_9
  simp (disch := decide) only [View.ld_unit_lit]
  exact View.canon_cons_unit_lit _ _ [] (by decide)

/-- What the body stores as output 10 (the queries). -/
theorem out10_eq : out0_10 a0 a1 a2 a3 a4 a5 a6 a7 = G10 a0 a1 a2 a3 a4 a5 a6 a7 := by
  unfold out0_10 k0_pay20 k0_pay19
  simp (disch := decide) only [View.ld_unit_lit]
  exact View.canon_cons_unit_lit _ _ [] (by decide)

/-- What the body stores as output 11 (the keys). -/
theorem out11_eq : out0_11 a0 a1 a2 a3 a4 a5 a6 a7 = G11 a0 a1 a2 a3 a4 a5 a6 a7 := by
  unfold out0_11 k0_pay20 k0_pay19
  simp (disch := decide) only [View.ld_unit_lit]
  exact View.canon_cons_unit_lit _ _ [] (by decide)

/-- What the body stores as output 12 (the values). -/
theorem out12_eq : out0_12 a0 a1 a2 a3 a4 a5 a6 a7 = G12 a0 a1 a2 a3 a4 := by
  unfold out0_12 k0_pay20 k0_pay19
  simp (disch := decide) only [View.ld_unit_lit]
  exact View.canon_cons_unit_lit _ _ [] (by decide)

/-- What the body stores as output 13 (the largest squared norms). -/
theorem out13_eq : out0_13 a0 a1 a2 a3 a4 a5 a6 a7 = G13 a0 a1 a2 a3 a4 a5 a6 := by
  unfold out0_13 k0_pay20 k0_pay19
  simp (disch := decide) only [View.ld_unit_lit]
  exact View.canon_cons_unit_lit _ _ [] (by decide)

end Body

/-! ## The arrays after the run -/

variable (m : (ℓ : Loc nD τ sig) → Buf (Elt Ideal) ℓ) (c : Dev nD)

/-- The windows' block indices at the one point. -/
theorem idx : ∀ t : Fin cfg0.N, win0_0.index t = ![0, 0]
    ∧ win0_1.index t = ![0]
    ∧ win0_2.index t = ![0, 0]
    ∧ win0_3.index t = ![0]
    ∧ win0_4.index t = ![0]
    ∧ win0_5.index t = ![0, 0]
    ∧ win0_6.index t = ![0, 0]
    ∧ win0_7.index t = ![0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0] :=
  (by decide +kernel : ∀ t : Fin grid0.N, _)

/-- The only block of argument 0 is the whole array. -/
theorem iblk0_eq (t : Fin cfg0.N) : iblk m c 0 t = m ((c : Thread nD τ).loc main_arg0) := by
  funext y
  obtain ⟨i, j, rfl⟩ := exists_ix2 y
  blk_ext [iblk, V, idx t]

/-- The only block of argument 1 is the whole array. -/
theorem iblk1_eq (t : Fin cfg0.N) : iblk m c 1 t = m ((c : Thread nD τ).loc main_arg1) := by
  funext y
  obtain ⟨i, rfl⟩ := exists_ix1 y
  blk_ext [iblk, V, idx t]

/-- The only block of argument 2 is the whole array. -/
theorem iblk2_eq (t : Fin cfg0.N) : iblk m c 2 t = m ((c : Thread nD τ).loc main_arg2) := by
  funext y
  obtain ⟨i, j, rfl⟩ := exists_ix2 y
  blk_ext [iblk, V, idx t]

/-- The only block of argument 3 is the whole array. -/
theorem iblk3_eq (t : Fin cfg0.N) : iblk m c 3 t = m ((c : Thread nD τ).loc main_arg3) := by
  funext y
  obtain ⟨i, rfl⟩ := exists_ix1 y
  blk_ext [iblk, V, idx t]

/-- The only block of argument 4 is the whole array. -/
theorem iblk4_eq (t : Fin cfg0.N) : iblk m c 4 t = m ((c : Thread nD τ).loc main_arg4) := by
  funext y
  obtain ⟨i, rfl⟩ := exists_ix1 y
  blk_ext [iblk, V, idx t]

/-- The only block of argument 5 is the whole array. -/
theorem iblk5_eq (t : Fin cfg0.N) : iblk m c 5 t = m ((c : Thread nD τ).loc main_arg5) := by
  funext y
  obtain ⟨i, j, rfl⟩ := exists_ix2 y
  blk_ext [iblk, V, idx t]

/-- The only block of argument 6 is the whole array. -/
theorem iblk6_eq (t : Fin cfg0.N) : iblk m c 6 t = m ((c : Thread nD τ).loc main_arg6) := by
  funext y
  obtain ⟨i, j, rfl⟩ := exists_ix2 y
  blk_ext [iblk, V, idx t]

/-- The only block of argument 7 is the whole array. -/
theorem iblk7_eq (t : Fin cfg0.N) : iblk m c 7 t = m ((c : Thread nD τ).loc main_arg7) := by
  funext y
  obtain ⟨i, rfl⟩ := exists_ix1 y
  blk_ext [iblk, V, idx t]

/-- Output 8 (the codes) after the run. -/
theorem final8 : (dats m 0 c).arrAt 8 (cfgs 0).N
    = G8 (m ((c : Thread nD τ).loc main_arg0)) (m ((c : Thread nD τ).loc main_arg1)) := by
  refine (dats m 0 c).arrAt_eq_of_covers 8 _ (by decide +kernel) fun t _ y => ?_
  blk_simp
  rw [after0_8, out8_eq, iblk0_eq, iblk1_eq]
  refine congrArg (G8 (m ((c : Thread nD τ).loc main_arg0)) (m ((c : Thread nD τ).loc main_arg1))) ?_
  blk_ext [idx t]

/-- Output 9 (the scales) after the run. -/
theorem final9 : (dats m 0 c).arrAt 9 (cfgs 0).N
    = G9 (m ((c : Thread nD τ).loc main_arg0)) (m ((c : Thread nD τ).loc main_arg1)) := by
  refine (dats m 0 c).arrAt_eq_of_covers 9 _ (by decide +kernel) fun t _ y => ?_
  blk_simp
  rw [after0_9, out9_eq, iblk0_eq, iblk1_eq]
  refine congrArg (G9 (m ((c : Thread nD τ).loc main_arg0)) (m ((c : Thread nD τ).loc main_arg1))) ?_
  blk_ext [idx t]

/-- Output 10 (the queries) after the run. -/
theorem final10 : (dats m 0 c).arrAt 10 (cfgs 0).N
    = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10, out10_eq, iblk0_eq, iblk1_eq, iblk2_eq, iblk3_eq, iblk4_eq, iblk5_eq, iblk6_eq, iblk7_eq]
  refine congrArg (G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ?_
  blk_ext [idx t]

/-- Output 11 (the keys) after the run. -/
theorem final11 : (dats m 0 c).arrAt 11 (cfgs 0).N
    = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11, out11_eq, iblk0_eq, iblk1_eq, iblk2_eq, iblk3_eq, iblk4_eq, iblk5_eq, iblk6_eq, iblk7_eq]
  refine congrArg (G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ?_
  blk_ext [idx t]

/-- Output 12 (the values) after the run. -/
theorem final12 : (dats m 0 c).arrAt 12 (cfgs 0).N
    = G12 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t _ y => ?_
  blk_simp
  rw [after0_12, out12_eq, iblk0_eq, iblk1_eq, iblk2_eq, iblk3_eq, iblk4_eq]
  refine congrArg (G12 (m ((c : Thread nD τ).loc main_arg0)) (m ((c : Thread nD τ).loc main_arg1)) (m ((c : Thread nD τ).loc main_arg2)) (m ((c : Thread nD τ).loc main_arg3)) (m ((c : Thread nD τ).loc main_arg4))) ?_
  blk_ext [idx t]

/-- Output 13 (the largest squared norms) after the run. -/
theorem final13 : (dats m 0 c).arrAt 13 (cfgs 0).N
    = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t _ y => ?_
  blk_simp
  rw [after0_13, out13_eq, iblk0_eq, iblk1_eq, iblk2_eq, iblk3_eq, iblk4_eq, iblk5_eq, iblk6_eq]
  refine congrArg (G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) ?_
  blk_ext [idx t]

/-- The run: each result array holds the reference's value of the argument arrays, and these are unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = G8 (m ((c : Thread nD τ).loc main_arg0)) (m ((c : Thread nD τ).loc main_arg1))
      ∧ r.2.mem ((c : Thread nD τ).loc main_v0_1) = G9 (m ((c : Thread nD τ).loc main_arg0)) (m ((c : Thread nD τ).loc main_arg1))
      ∧ r.2.mem ((c : Thread nD τ).loc main_v0_2) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_3) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_4) = G12 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_5) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 8).trans (final8 m c),
      ((h c).1 9).trans (final9 m c),
      ((h c).1 10).trans (final10 m c),
      ((h c).1 11).trans (final11 m c),
      ((h c).1 12).trans (final12 m c),
      ((h c).1 13).trans (final13 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.QkvRefRows
-- ==== Proof.Qkv.Value.lean ====
module

public import Idealize.ShloMosaic.Lib.Pipeline.ValueKit
public import Idealize.ShloMosaic.Lib.Claim
public import proofs.«01_k».proof.Defs
public import proofs.«01_k».proof.Proof.Gen.Qkv
public import proofs.«01_k».proof.Proof.Qkv.Blocks
public import proofs.«01_k».proof.Proof.Qkv.RefValue

@[expose] public section

/-! The kernel's result arrays after its run are the reference's, over the same arguments: token `r` of block `t` is token
`256 t + r` of the array, and the weights' blocks are the whole weights. -/

set_option maxRecDepth 16384

noncomputable section

namespace Cert.QkvRows

open Idealize.ShloMosaic Idealize.ShloMosaic.TcCoe Idealize.ShloMosaic.Tactic Idealize.SL.Sem Cert.QkvIdeal Cert.QkvIdeal.Gen Cert.Rows Cert.QkvRow
open Cert.QkvRefRows (G8 G9 G10 G11 G12 G13 G8_at G9_at G10_at G11_at G12_at G13_at)

variable (m : (ℓ : Loc nD τ sig) → Buf (Elt Ideal) ℓ) (c : Dev nD)

/-- The windows' block indices at every point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![0, t.val]
    ∧ win0_8.index t = ![t.val, 0]
    ∧ win0_9.index t = ![0, t.val]
    ∧ win0_10.index t = ![0, t.val]
    ∧ win0_11.index t = ![t.val, 0]
    ∧ win0_12.index t = ![0, t.val]
    ∧ win0_13.index t = ![0, 0] ∧ t.val < 32 :=
  (by decide +kernel : ∀ t : Fin grid0.N, _)

/-! ## The blocks of the arguments -/

/-- A row of the block of the input is that row of the array. -/
theorem blk0_at (t : Fin cfg0.N) (r : Fin 256) (i : Fin 8192) (e : i.val = t.val * 256 + r.val) :
    row (iblk m c 0 t) r = row (m ((c : Thread nD τ).loc main_arg0)) i := by
  funext k
  show iblk m c 0 t (ix2 r k) = m ((c : Thread nD τ).loc main_arg0) (ix2 i k)
  blk_ext [iblk, V, idx t]

/-- A row of the block of cosines is that row of the array. -/
theorem blk5_at (t : Fin cfg0.N) (r : Fin 256) (i : Fin 8192) (e : i.val = t.val * 256 + r.val) :
    row (iblk m c 5 t) r = row (m ((c : Thread nD τ).loc main_arg5)) i := by
  funext k
  show iblk m c 5 t (ix2 r k) = m ((c : Thread nD τ).loc main_arg5) (ix2 i k)
  blk_ext [iblk, V, idx t]

/-- A row of the block of sines is that row of the array. -/
theorem blk6_at (t : Fin cfg0.N) (r : Fin 256) (i : Fin 8192) (e : i.val = t.val * 256 + r.val) :
    row (iblk m c 6 t) r = row (m ((c : Thread nD τ).loc main_arg6)) i := by
  funext k
  show iblk m c 6 t (ix2 r k) = m ((c : Thread nD τ).loc main_arg6) (ix2 i k)
  blk_ext [iblk, V, idx t]

/-- The block of the weights is the whole array. -/
theorem blk2_at (t : Fin cfg0.N) : mat (iblk m c 2 t) = mat (m ((c : Thread nD τ).loc main_arg2)) := by
  funext k j
  show iblk m c 2 t (ix2 k j) = m ((c : Thread nD τ).loc main_arg2) (ix2 k j)
  blk_ext [iblk, V, idx t]

/-- The block of the gains is the whole vector. -/
theorem blk1_at (t : Fin cfg0.N) : row (iblk m c 1 t) 0 = vec (m ((c : Thread nD τ).loc main_arg1)) := by
  funext j
  show iblk m c 1 t (ix2 0 j) = m ((c : Thread nD τ).loc main_arg1) (ix1 j)
  blk_simp [iblk, idx t]
  entry_read
  pointwise
  blk_ext [idx t]

/-- The block of the weights' scales is the whole vector. -/
theorem blk3_at (t : Fin cfg0.N) : row (iblk m c 3 t) 0 = vec (m ((c : Thread nD τ).loc main_arg3)) := by
  funext j
  show iblk m c 3 t (ix2 0 j) = m ((c : Thread nD τ).loc main_arg3) (ix1 j)
  blk_simp [iblk, idx t]
  entry_read
  pointwise
  blk_ext [idx t]

/-- The block of the biases is the whole vector. -/
theorem blk4_at (t : Fin cfg0.N) : row (iblk m c 4 t) 0 = vec (m ((c : Thread nD τ).loc main_arg4)) := by
  funext j
  show iblk m c 4 t (ix2 0 j) = m ((c : Thread nD τ).loc main_arg4) (ix1 j)
  blk_simp [iblk, idx t]
  entry_read
  pointwise
  blk_ext [idx t]

/-- An id of the block is that token's id in the array. -/
theorem blk7_at (t : Fin cfg0.N) (r : Fin 256) (i : Fin 8192) (e : i.val = t.val * 256 + r.val) :
    iblk m c 7 t (ix2 0 r) = m ((c : Thread nD τ).loc main_arg7) (ix1 i) := by
  blk_simp [iblk, idx t]
  entry_read
  pointwise
  blk_ext [idx t]

/-! ## What every point leaves in the outputs' blocks -/

/-- Output 8 (the codes) after any point: the row function at that row of the blocks. -/
theorem left8_at (t : Fin cfg0.N) (r : Fin 256) (j : Fin 1280) : (outsAt0 m c t.val t.isLt).1 (ix2 r j)
    = code (rms (row (iblk m c 0 t) r) (row (iblk m c 1 t) 0)) j := by
  by_cases h0 : t.val % 32 = 0
  · rw [outsAt0_A m c t h0]
    dsimp only
    exact outA8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) ((hcond0_0 t).mpr h0) r j
  · rw [outsAt0_B m c t h0]
    dsimp only
    exact outB8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (Nat.lt_of_le_of_lt (Nat.sub_le _ _) t.isLt)).2.2.2.2.2 r j

/-- Output 9 (the scales) after any point: the row function at that row of the blocks. -/
theorem left9_at (t : Fin cfg0.N) (r : Fin 256) : (outsAt0 m c t.val t.isLt).2.1 (ix2 0 r)
    = scale (rms (row (iblk m c 0 t) r) (row (iblk m c 1 t) 0)) := by
  by_cases h0 : t.val % 32 = 0
  · rw [outsAt0_A m c t h0]
    dsimp only
    exact outA9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) ((hcond0_0 t).mpr h0) r
  · rw [outsAt0_B m c t h0]
    dsimp only
    exact outB9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (Nat.lt_of_le_of_lt (Nat.sub_le _ _) t.isLt)).2.2.2.2.2 r

/-- Output 10 (the queries) after any point: the row function at that row of the blocks. -/
theorem left10_at (t : Fin cfg0.N) (R : Fin 2048) (r : Fin 256) : (outsAt0 m c t.val t.isLt).2.2.1 (ix2 R r)
    = query (row (iblk m c 0 t) r) (row (iblk m c 1 t) 0) (mat (iblk m c 2 t)) (row (iblk m c 3 t) 0) (row (iblk m c 4 t) 0) (row (iblk m c 5 t) r) (row (iblk m c 6 t) r) (iblk m c 7 t (ix2 0 r)) R := by
  by_cases h0 : t.val % 32 = 0
  · rw [outsAt0_A m c t h0]
    dsimp only
    exact outA10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) ((hcond0_0 t).mpr h0) R r
  · rw [outsAt0_B m c t h0]
    dsimp only
    exact outB10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (Nat.lt_of_le_of_lt (Nat.sub_le _ _) t.isLt)).2.2.2.2.2 R r

/-- Output 11 (the keys) after any point: the row function at that row of the blocks. -/
theorem left11_at (t : Fin cfg0.N) (r : Fin 256) (R : Fin 2048) : (outsAt0 m c t.val t.isLt).2.2.2.1 (ix2 r R)
    = key (row (iblk m c 0 t) r) (row (iblk m c 1 t) 0) (mat (iblk m c 2 t)) (row (iblk m c 3 t) 0) (row (iblk m c 4 t) 0) (row (iblk m c 5 t) r) (row (iblk m c 6 t) r) (iblk m c 7 t (ix2 0 r)) R := by
  by_cases h0 : t.val % 32 = 0
  · rw [outsAt0_A m c t h0]
    dsimp only
    exact outA11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) ((hcond0_0 t).mpr h0) r R
  · rw [outsAt0_B m c t h0]
    dsimp only
    exact outB11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (Nat.lt_of_le_of_lt (Nat.sub_le _ _) t.isLt)).2.2.2.2.2 r R

/-- Output 12 (the values) after any point: the row function at that row of the blocks. -/
theorem left12_at (t : Fin cfg0.N) (j : Fin 1280) (r : Fin 256) : (outsAt0 m c t.val t.isLt).2.2.2.2.1 (ix2 j r)
    = value (row (iblk m c 0 t) r) (row (iblk m c 1 t) 0) (mat (iblk m c 2 t)) (row (iblk m c 3 t) 0) (row (iblk m c 4 t) 0) j := by
  by_cases h0 : t.val % 32 = 0
  · rw [outsAt0_A m c t h0]
    dsimp only
    exact outA12_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) ((hcond0_0 t).mpr h0) j r
  · rw [outsAt0_B m c t h0]
    dsimp only
    exact outB12_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (Nat.lt_of_le_of_lt (Nat.sub_le _ _) t.isLt)).2.2.2.2.2 j r

/-- The squared norm of head `H` of the 32 tokens that share lane `r`, as the arguments give it. -/
def laneNorms (H : Fin 32) (r : Fin 256) (k : Fin 32) : EReal :=
  headNorm (row (m ((c : Thread nD τ).loc main_arg0)) ⟨k.val * 256 + r.val, by omega⟩) (vec (m ((c : Thread nD τ).loc main_arg1))) (mat (m ((c : Thread nD τ).loc main_arg2))) (vec (m ((c : Thread nD τ).loc main_arg3))) (vec (m ((c : Thread nD τ).loc main_arg4)))
    (row (m ((c : Thread nD τ).loc main_arg5)) ⟨k.val * 256 + r.val, by omega⟩) (row (m ((c : Thread nD τ).loc main_arg6)) ⟨k.val * 256 + r.val, by omega⟩) H

/-- A block's squared norm is the one of its token in the arrays. -/
theorem blockNorms (t : Fin cfg0.N) (k : Fin 32) (hk : k.val = t.val) (H : Fin 32) (r : Fin 256) :
    headNorm (row (iblk m c 0 t) r) (row (iblk m c 1 t) 0) (mat (iblk m c 2 t)) (row (iblk m c 3 t) 0) (row (iblk m c 4 t) 0) (row (iblk m c 5 t) r) (row (iblk m c 6 t) r) H = laneNorms m c H r k := by
  unfold laneNorms
  rw [blk0_at m c t r ⟨k.val * 256 + r.val, by omega⟩ (by rw [← hk]), blk1_at, blk2_at, blk3_at, blk4_at,
    blk5_at m c t r ⟨k.val * 256 + r.val, by omega⟩ (by rw [← hk]), blk6_at m c t r ⟨k.val * 256 + r.val, by omega⟩ (by rw [← hk])]

/-- Output 13 (the norms) after the first point. -/
theorem left13_first (t : Fin cfg0.N) (h0 : t.val % 32 = 0) (H : Fin 32) (r : Fin 256) : (outsAt0 m c t.val t.isLt).2.2.2.2.2 (ix2 H r)
    = max 0 (headNorm (row (iblk m c 0 t) r) (row (iblk m c 1 t) 0) (mat (iblk m c 2 t)) (row (iblk m c 3 t) 0) (row (iblk m c 4 t) 0) (row (iblk m c 5 t) r) (row (iblk m c 6 t) r) H) := by
  rw [outsAt0_A m c t h0]
  dsimp only
  exact outA13_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) ((hcond0_0 t).mpr h0) H r

/-- Output 13 (the norms) after another point, over what the point before left. -/
theorem left13_next (t : Fin cfg0.N) (h0 : ¬ t.val % 32 = 0) (H : Fin 32) (r : Fin 256) : (outsAt0 m c t.val t.isLt).2.2.2.2.2 (ix2 H r)
    = max ((outsAt0 m c (t.val - 1) (Nat.lt_of_le_of_lt (Nat.sub_le _ _) t.isLt)).2.2.2.2.2 (ix2 H r)) (headNorm (row (iblk m c 0 t) r) (row (iblk m c 1 t) 0) (mat (iblk m c 2 t)) (row (iblk m c 3 t) 0) (row (iblk m c 4 t) 0) (row (iblk m c 5 t) r) (row (iblk m c 6 t) r) H) := by
  rw [outsAt0_B m c t h0]
  dsimp only
  exact outB13_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (Nat.lt_of_le_of_lt (Nat.sub_le _ _) t.isLt)).2.2.2.2.2 H r

/-- Output 13 after `n + 1` points: the largest among their tokens. -/
theorem left13_at (n : ℕ) (hn : n < cfg0.N) (H : Fin 32) (r : Fin 256) :
    (outsAt0 m c n hn).2.2.2.2.2 (ix2 H r) = largestTo (laneNorms m c H r) (n + 1) := by
  have hlt : n < 32 := (idx ⟨n, hn⟩).2.2.2.2.2.2.2.2.2.2.2.2.2.2
  induction n with
  | zero =>
    rw [left13_first m c ⟨0, hn⟩ rfl H r, blockNorms m c ⟨0, hn⟩ ⟨0, hlt⟩ rfl]
    exact (largestTo_one (laneNorms m c H r) ⟨0, hlt⟩ rfl).symm
  | succ n ih =>
    have h0 : ¬ (n + 1) % 32 = 0 := by omega
    rw [left13_next m c ⟨n + 1, hn⟩ h0 H r, blockNorms m c ⟨n + 1, hn⟩ ⟨n + 1, hlt⟩ rfl]
    refine Eq.trans ?_ (largestTo_step (laneNorms m c H r) ⟨n + 1, hlt⟩).symm
    exact congrArg (fun z => max z _) (ih (Nat.lt_of_succ_lt hn) (Nat.lt_of_succ_lt hlt))

/-! ## The arrays after the run -/

/-- Output 8 (the codes) after the run is the array of the reference. -/
theorem final8 : (dats m 0 c).arrAt 8 (cfgs 0).N
    = G8 (m ((c : Thread nD τ).loc main_arg0)) (m ((c : Thread nD τ).loc main_arg1)) := by
  refine (dats m 0 c).arrAt_eq_of_covers 8 _ (by decide +kernel) fun t _ y => ?_
  blk_simp
  rw [after0_8]
  obtain ⟨r, j, rfl⟩ := exists_ix2 (n := 256) (m := 1280) y
  have ht := (idx t).2.2.2.2.2.2.2.2.2.2.2.2.2.2
  have hlt : t.val * 256 + r.val < 8192 := by have := r.isLt; omega
  refine (left8_at m c t r j).trans ?_
  rw [blk0_at m c t r ⟨t.val * 256 + r.val, hlt⟩ rfl, blk1_at]
  refine (G8_at (m ((c : Thread nD τ).loc main_arg0)) (m ((c : Thread nD τ).loc main_arg1)) ⟨t.val * 256 + r.val, hlt⟩ j).symm.trans (congrArg _ ?_)
  blk_ext [idx t]

/-- Output 9 (the scales) after the run is the array of the reference. -/
theorem final9 : (dats m 0 c).arrAt 9 (cfgs 0).N
    = G9 (m ((c : Thread nD τ).loc main_arg0)) (m ((c : Thread nD τ).loc main_arg1)) := by
  refine (dats m 0 c).arrAt_eq_of_covers 9 _ (by decide +kernel) fun t _ y => ?_
  blk_simp
  rw [after0_9]
  obtain ⟨z, r, rfl⟩ := exists_ix2 (n := 1) (m := 256) y
  obtain rfl : z = 0 := Subsingleton.elim _ _
  have ht := (idx t).2.2.2.2.2.2.2.2.2.2.2.2.2.2
  have hlt : t.val * 256 + r.val < 8192 := by have := r.isLt; omega
  refine (left9_at m c t r).trans ?_
  rw [blk0_at m c t r ⟨t.val * 256 + r.val, hlt⟩ rfl, blk1_at]
  refine (G9_at (m ((c : Thread nD τ).loc main_arg0)) (m ((c : Thread nD τ).loc main_arg1)) ⟨t.val * 256 + r.val, hlt⟩).symm.trans (congrArg _ ?_)
  blk_ext [idx t]

/-- Output 10 (the queries) after the run is the array of the reference. -/
theorem final10 : (dats m 0 c).arrAt 10 (cfgs 0).N
    = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]
  obtain ⟨R, r, rfl⟩ := exists_ix2 (n := 2048) (m := 256) y
  have ht := (idx t).2.2.2.2.2.2.2.2.2.2.2.2.2.2
  have hlt : t.val * 256 + r.val < 8192 := by have := r.isLt; omega
  refine (left10_at m c t R r).trans ?_
  rw [blk0_at m c t r ⟨t.val * 256 + r.val, hlt⟩ rfl, blk1_at, blk2_at, blk3_at, blk4_at, blk5_at m c t r ⟨t.val * 256 + r.val, hlt⟩ rfl, blk6_at m c t r ⟨t.val * 256 + r.val, hlt⟩ rfl, blk7_at m c t r ⟨t.val * 256 + r.val, hlt⟩ rfl]
  refine (G10_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R ⟨t.val * 256 + r.val, hlt⟩).symm.trans (congrArg _ ?_)
  blk_ext [idx t]

/-- Output 11 (the keys) after the run is the array of the reference. -/
theorem final11 : (dats m 0 c).arrAt 11 (cfgs 0).N
    = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]
  obtain ⟨r, R, rfl⟩ := exists_ix2 (n := 256) (m := 2048) y
  have ht := (idx t).2.2.2.2.2.2.2.2.2.2.2.2.2.2
  have hlt : t.val * 256 + r.val < 8192 := by have := r.isLt; omega
  refine (left11_at m c t r R).trans ?_
  rw [blk0_at m c t r ⟨t.val * 256 + r.val, hlt⟩ rfl, blk1_at, blk2_at, blk3_at, blk4_at, blk5_at m c t r ⟨t.val * 256 + r.val, hlt⟩ rfl, blk6_at m c t r ⟨t.val * 256 + r.val, hlt⟩ rfl, blk7_at m c t r ⟨t.val * 256 + r.val, hlt⟩ rfl]
  refine (G11_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨t.val * 256 + r.val, hlt⟩ R).symm.trans (congrArg _ ?_)
  blk_ext [idx t]

/-- Output 12 (the values) after the run is the array of the reference. -/
theorem final12 : (dats m 0 c).arrAt 12 (cfgs 0).N
    = G12 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t _ y => ?_
  blk_simp
  rw [after0_12]
  obtain ⟨j, r, rfl⟩ := exists_ix2 (n := 1280) (m := 256) y
  have ht := (idx t).2.2.2.2.2.2.2.2.2.2.2.2.2.2
  have hlt : t.val * 256 + r.val < 8192 := by have := r.isLt; omega
  refine (left12_at m c t j r).trans ?_
  rw [blk0_at m c t r ⟨t.val * 256 + r.val, hlt⟩ rfl, blk1_at, blk2_at, blk3_at, blk4_at]
  refine (G12_at (m ((c : Thread nD τ).loc main_arg0)) (m ((c : Thread nD τ).loc main_arg1)) (m ((c : Thread nD τ).loc main_arg2)) (m ((c : Thread nD τ).loc main_arg3)) (m ((c : Thread nD τ).loc main_arg4)) j ⟨t.val * 256 + r.val, hlt⟩).symm.trans (congrArg _ ?_)
  blk_ext [idx t]

/-- The norms are written back after the last point alone. -/
theorem flush13 : ∀ t : Fin cfg0.N, (cfg0.win 13).flush t = true → t.val = 31 := by decide +kernel

/-- Output 13 (the norms) after the run is the array of the reference. -/
theorem final13 : (dats m 0 c).arrAt 13 (cfgs 0).N
    = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  blk_simp
  rw [after0_13]
  obtain ⟨H, r, rfl⟩ := exists_ix2 (n := 32) (m := 256) y
  refine (left13_at m c t.val t.isLt H r).trans ?_
  rw [flush13 t hf]
  refine (largestTo_all (laneNorms m c H r) fun k => headNorm_nonneg _ _ _ _ _ _ _ H).trans ?_
  refine (G13_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) H r).symm.trans (congrArg _ ?_)
  blk_ext [idx t]

/-! ## The claim -/

/-- Equal arguments give equal results of the reference (result 1). -/
theorem G8_congr {a0 b0 : Vec Ideal S8192x1280 .bf16} {a1 b1 : Vec Ideal S1280 .f32}
    (h0 : a0 = b0) (h1 : a1 = b1) :
    G8 a0 a1 = G8 b0 b1 := by
  subst h0; subst h1; rfl

/-- Equal arguments give equal results of the reference (result 2). -/
theorem G9_congr {a0 b0 : Vec Ideal S8192x1280 .bf16} {a1 b1 : Vec Ideal S1280 .f32}
    (h0 : a0 = b0) (h1 : a1 = b1) :
    G9 a0 a1 = G9 b0 b1 := by
  subst h0; subst h1; rfl

/-- Equal arguments give equal results of the reference (result 3). -/
theorem G10_congr {a0 b0 : Vec Ideal S8192x1280 .bf16} {a1 b1 : Vec Ideal S1280 .f32} {a2 b2 : Vec Ideal S1280x3840 .fp8e4m3} {a3 b3 : Vec Ideal S3840 .f32} {a4 b4 : Vec Ideal S3840 .f32} {a5 b5 : Vec Ideal S8192x80 .f32} {a6 b6 : Vec Ideal S8192x80 .f32} {a7 b7 : Vec Ideal S8192 .i32}
    (h0 : a0 = b0) (h1 : a1 = b1) (h2 : a2 = b2) (h3 : a3 = b3) (h4 : a4 = b4) (h5 : a5 = b5) (h6 : a6 = b6) (h7 : a7 = b7) :
    G10 a0 a1 a2 a3 a4 a5 a6 a7 = G10 b0 b1 b2 b3 b4 b5 b6 b7 := by
  subst h0; subst h1; subst h2; subst h3; subst h4; subst h5; subst h6; subst h7; rfl

/-- Equal arguments give equal results of the reference (result 4). -/
theorem G11_congr {a0 b0 : Vec Ideal S8192x1280 .bf16} {a1 b1 : Vec Ideal S1280 .f32} {a2 b2 : Vec Ideal S1280x3840 .fp8e4m3} {a3 b3 : Vec Ideal S3840 .f32} {a4 b4 : Vec Ideal S3840 .f32} {a5 b5 : Vec Ideal S8192x80 .f32} {a6 b6 : Vec Ideal S8192x80 .f32} {a7 b7 : Vec Ideal S8192 .i32}
    (h0 : a0 = b0) (h1 : a1 = b1) (h2 : a2 = b2) (h3 : a3 = b3) (h4 : a4 = b4) (h5 : a5 = b5) (h6 : a6 = b6) (h7 : a7 = b7) :
    G11 a0 a1 a2 a3 a4 a5 a6 a7 = G11 b0 b1 b2 b3 b4 b5 b6 b7 := by
  subst h0; subst h1; subst h2; subst h3; subst h4; subst h5; subst h6; subst h7; rfl

/-- Equal arguments give equal results of the reference (result 5). -/
theorem G12_congr {a0 b0 : Vec Ideal S8192x1280 .bf16} {a1 b1 : Vec Ideal S1280 .f32} {a2 b2 : Vec Ideal S1280x3840 .fp8e4m3} {a3 b3 : Vec Ideal S3840 .f32} {a4 b4 : Vec Ideal S3840 .f32}
    (h0 : a0 = b0) (h1 : a1 = b1) (h2 : a2 = b2) (h3 : a3 = b3) (h4 : a4 = b4) :
    G12 a0 a1 a2 a3 a4 = G12 b0 b1 b2 b3 b4 := by
  subst h0; subst h1; subst h2; subst h3; subst h4; rfl

/-- Equal arguments give equal results of the reference (result 6). -/
theorem G13_congr {a0 b0 : Vec Ideal S8192x1280 .bf16} {a1 b1 : Vec Ideal S1280 .f32} {a2 b2 : Vec Ideal S1280x3840 .fp8e4m3} {a3 b3 : Vec Ideal S3840 .f32} {a4 b4 : Vec Ideal S3840 .f32} {a5 b5 : Vec Ideal S8192x80 .f32} {a6 b6 : Vec Ideal S8192x80 .f32}
    (h0 : a0 = b0) (h1 : a1 = b1) (h2 : a2 = b2) (h3 : a3 = b3) (h4 : a4 = b4) (h5 : a5 = b5) (h6 : a6 = b6) :
    G13 a0 a1 a2 a3 a4 a5 a6 = G13 b0 b1 b2 b3 b4 b5 b6 := by
  subst h0; subst h1; subst h2; subst h3; subst h4; subst h5; subst h6; rfl

set_option maxHeartbeats 4000000 in
/-- From memories that agree on the arguments both programs run, end with the same results and leave their arguments as
they were. -/
theorem algebraic : Cert.algebraic_QkvIdeal_QkvRefIdeal (hQkvIdeal := Cert.QkvIdeal.Gen.facts)
    (hQkvRefIdeal := Cert.QkvRefIdeal.Gen.facts) := by
  intro m g m' g' _ hag
  refine ⟨fun c => G8 (m ((c : Thread nD τ).loc main_arg0)) (m ((c : Thread nD τ).loc main_arg1)), fun c => G9 (m ((c : Thread nD τ).loc main_arg0)) (m ((c : Thread nD τ).loc main_arg1)), fun c => G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), fun c => G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), fun c => G12 (m ((c : Thread nD τ).loc main_arg0)) (m ((c : Thread nD τ).loc main_arg1)) (m ((c : Thread nD τ).loc main_arg2)) (m ((c : Thread nD τ).loc main_arg3)) (m ((c : Thread nD τ).loc main_arg4)), fun c => G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · refine (θ_run _ _ _).mono (fun r h c => ?_) (Cert.QkvIdeal.Value.run_blocks m g)
    obtain ⟨e8, e9, e10, e11, e12, e13, hargs⟩ := h c
    exact ⟨e8.trans (final8 m c), e9.trans (final9 m c), e10.trans (final10 m c), e11.trans (final11 m c), e12.trans (final12 m c), e13.trans (final13 m c), hargs⟩
  · refine (θ_run _ _ _).mono (fun r h c => ?_) (Cert.QkvRefRows.run m' g')
    obtain ⟨e8, e9, e10, e11, e12, e13, hargs⟩ := h c
    obtain ⟨a0, a1, a2, a3, a4, a5, a6, a7⟩ := hag c
    exact ⟨e8.trans (G8_congr a0 a1), e9.trans (G9_congr a0 a1), e10.trans (G10_congr a0 a1 a2 a3 a4 a5 a6 a7), e11.trans (G11_congr a0 a1 a2 a3 a4 a5 a6 a7), e12.trans (G12_congr a0 a1 a2 a3 a4), e13.trans (G13_congr a0 a1 a2 a3 a4 a5 a6), hargs⟩

end Cert.QkvRows
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Skeleton
public import proofs.«01_k».proof.Proof.Gen.MlpRefIdeal.Launch
public import proofs.«01_k».proof.Proof.Gen.MlpRefIdeal.Points
public import proofs.«01_k».proof.Proof.Gen.MlpRefIdeal.Frame
public import proofs.«01_k».proof.Proof.Gen.MlpIdeal.Value
public import proofs.«01_k».proof.Proof.Gen.MlpRefIdeal.Value
public import proofs.«01_k».proof.Proof.Gen.Qkv
public import proofs.«01_k».proof.Proof.Gen.QkvIdeal
public import proofs.«01_k».proof.Proof.Gen.QkvRefIdeal
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvIdeal.Value
public import proofs.«01_k».proof.Proof.Mlp.Value
public import proofs.«01_k».proof.Proof.Qkv.Value
public import Idealize.ShloMosaic.Adequacy
public import Idealize.ShloMosaic.Init

@[expose] public section

noncomputable section

namespace Cert.Proof

open Idealize.ShloMosaic Idealize.SL.Sem

/-- Everything that Defs.lean claims. -/
theorem claim : Cert.Claim := ⟨Cert.Mlp.Gen.facts, Cert.MlpIdeal.Gen.facts, Cert.MlpRefIdeal.Gen.facts,
  Cert.Qkv.Gen.facts, Cert.QkvIdeal.Gen.facts, Cert.QkvRefIdeal.Gen.facts,
  fun m ρ _ => Cert.Mlp.Gen.frame m ρ, fun m ρ _ => Cert.MlpIdeal.Gen.frame m ρ,
  fun m ρ _ => Cert.MlpRefIdeal.Gen.frame m ρ,
  fun m ρ _ => Cert.Qkv.Gen.frame m ρ, fun m ρ _ => Cert.QkvIdeal.Gen.frame m ρ,
  fun m ρ _ => Cert.QkvRefIdeal.Gen.frame m ρ,
  trivial, Cert.MlpRows.algebraic, trivial, Cert.QkvRows.algebraic⟩

end Cert.Proof

end
